-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ternary [hPre_ternary : Cert.Pre_ternary.Facts] (m : (ℓ : Loc Cert.KernelIdeal.nD Cert.KernelIdeal.τ Cert.KernelIdeal.sig) → Buf (Elt Ideal) ℓ) : Prop :=
  ∀ c : Dev Cert.KernelIdeal.nD,
    (Cert.Pre_ternary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ternary [hPre_ternary : Cert.Pre_ternary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ternary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ternary [hKernelIdeal : Cert.KernelIdeal.Facts] [hPre_ternary : Cert.Pre_ternary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ternary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ternary [hReferenceIdeal : Cert.ReferenceIdeal.Facts] [hPre_ternary : Cert.Pre_ternary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ternary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ternary [hKernelIdeal : Cert.KernelIdeal.Facts] [hReferenceIdeal : Cert.ReferenceIdeal.Facts] [hPre_ternary : Cert.Pre_ternary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ternary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v205) = v1 c
          ∧ r.2.mem ((c.tc : Thread Cert.ReferenceIdeal.nD Cert.ReferenceIdeal.τ).loc Cert.ReferenceIdeal.main_v206) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ternary : Cert.Pre_ternary.Facts),
    quiescent_Kernel (hKernel := hKernel)
    ∧ quiescent_KernelIdeal (hKernelIdeal := hKernelIdeal)
    ∧ quiescent_KernelIdeal_pre_ternary (hKernelIdeal := hKernelIdeal) (hPre_ternary := hPre_ternary)
    ∧ quiescent_ReferenceIdeal (hReferenceIdeal := hReferenceIdeal)
    ∧ quiescent_ReferenceIdeal_pre_ternary (hReferenceIdeal := hReferenceIdeal) (hPre_ternary := hPre_ternary)
    ∧ preserves_Kernel_KernelIdeal
    ∧ algebraic_KernelIdeal_ReferenceIdeal_pre_ternary (hKernelIdeal := hKernelIdeal) (hReferenceIdeal := hReferenceIdeal) (hPre_ternary := hPre_ternary)
-- ==== Pre_ternary.lean ====
abbrev S1x128x16384 : Shape := ⟨3, ![1, 128, 16384]⟩
abbrev S16384 : Shape := ⟨1, ![16384]⟩
abbrev S4096x7168 : Shape := ⟨2, ![4096, 7168]⟩
abbrev S1 : Shape := ⟨1, ![1]⟩
abbrev S_ : Shape := ⟨0, ![]⟩

class Facts : Prop where
  natLt_8_32 : 8 < 32
  bcast_S_S4096x7168 : S_.BroadcastsInDim S4096x7168 (![] : Fin 0 → Fin S4096x7168.rank)

variable [Facts]

def fn {F : FTy → Type} [FloatOps F] (main_arg0 : FVec F S1x128x16384 .bf16) (main_arg1 : FVec F S16384 .f32) (main_arg2 : IVec S4096x7168 8) (main_arg3 : FVec F S1 .f32) : IVec S4096x7168 1 :=
  let main_v0 : IVec S4096x7168 32 := (extui 32 · natLt_8_32) main_arg2
  let main_c : IVec S_ 32 := constantI S_ 32 1#32
  let main_v1 : IVec S4096x7168 32 := broadcastInDim S4096x7168 ![] bcast_S_S4096x7168 main_c
  let main_v2 : IVec S4096x7168 32 := Host.shrsi main_v0 main_v1
  let main_v3 : IVec S4096x7168 32 := andi main_v0 main_v2
  let main_c_0 : IVec S_ 32 := constantI S_ 32 85#32
  let main_v4 : IVec S4096x7168 32 := broadcastInDim S4096x7168 ![] bcast_S_S4096x7168 main_c_0
  let main_v5 : IVec S4096x7168 32 := andi main_v3 main_v4
  let main_c_1 : IVec S_ 32 := constantI S_ 32 0#32
  let main_v6 : IVec S4096x7168 32 := broadcastInDim S4096x7168 ![] bcast_S_S4096x7168 main_c_1
  let main_v7 : IVec S4096x7168 1 := cmpi .eq main_v5 main_v6
  main_v7
-- ==== Kernel.lean ====
abbrev S1x128x16384 : Shape := ⟨3, ![1, 128, 16384]⟩
abbrev S16384 : Shape := ⟨1, ![16384]⟩
abbrev S4096x7168 : Shape := ⟨2, ![4096, 7168]⟩
abbrev S1 : Shape := ⟨1, ![1]⟩
abbrev S128x16384 : Shape := ⟨2, ![128, 16384]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x16384 : Shape := ⟨2, ![1, 16384]⟩
abbrev S128x1 : Shape := ⟨2, ![128, 1]⟩
abbrev S32x16384 : Shape := ⟨2, ![32, 16384]⟩
abbrev S32x1 : Shape := ⟨2, ![32, 1]⟩
abbrev S8x128 : Shape := ⟨2, ![8, 128]⟩
abbrev S32 : Shape := ⟨1, ![32]⟩
abbrev S32x256 : Shape := ⟨2, ![32, 256]⟩
abbrev S128x7168 : Shape := ⟨2, ![128, 7168]⟩
abbrev S4096x512 : Shape := ⟨2, ![4096, 512]⟩
abbrev S128x512 : Shape := ⟨2, ![128, 512]⟩
abbrev S256x512 : Shape := ⟨2, ![256, 512]⟩
abbrev S64x512 : Shape := ⟨2, ![64, 512]⟩
abbrev S128x256 : Shape := ⟨2, ![128, 256]⟩
abbrev S1x128x7168 : Shape := ⟨3, ![1, 128, 7168]⟩
abbrev S1x128 : Shape := ⟨2, ![1, 128]⟩

abbrev nBuf : Space → Nat
  | .hbm => 30
  | .vmem => 18
  | .smem => 1
  | _ => 0

abbrev bufTy : (tb : Table) → Fin (tcTables nBuf tb) → BufTy
  | .hbm, ⟨0, _⟩ => ⟨S1x128x16384, .bf16⟩
  | .hbm, ⟨1, _⟩ => ⟨S16384, .f32⟩
  | .hbm, ⟨2, _⟩ => ⟨S4096x7168, .i8⟩
  | .hbm, ⟨3, _⟩ => ⟨S1, .f32⟩
  | .hbm, ⟨4, _⟩ => ⟨S128x16384, .bf16⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S256x256, .bf16⟩
  | .hbm, ⟨22, _⟩ => ⟨S1x16384, .f32⟩
  | .hbm, ⟨23, _⟩ => ⟨S128x16384, .i8⟩
  | .hbm, ⟨24, _⟩ => ⟨S128x16384, .fp8e4m3⟩
  | .hbm, ⟨25, _⟩ => ⟨S128x1, .f32⟩
  | .hbm, ⟨26, _⟩ => ⟨S128x7168, .bf16⟩
  | .hbm, ⟨27, _⟩ => ⟨S1x128x7168, .bf16⟩
  | .hbm, ⟨28, _⟩ => ⟨S1x128x16384, .i8⟩
  | .hbm, ⟨29, _⟩ => ⟨S1x128, .f32⟩
  | .local _ .vmem, ⟨0, _⟩ => ⟨S32x16384, .bf16⟩
  | .local _ .vmem, ⟨1, _⟩ => ⟨S32x16384, .bf16⟩
  | .local _ .vmem, ⟨2, _⟩ => ⟨S1x16384, .f32⟩
  | .local _ .vmem, ⟨3, _⟩ => ⟨S256x256, .bf16⟩
  | .local _ .vmem, ⟨4, _⟩ => ⟨S32x16384, .i8⟩
  | .local _ .vmem, ⟨5, _⟩ => ⟨S32x16384, .i8⟩
  | .local _ .vmem, ⟨6, _⟩ => ⟨S32x16384, .fp8e4m3⟩
  | .local _ .vmem, ⟨7, _⟩ => ⟨S32x16384, .fp8e4m3⟩
  | .local _ .vmem, ⟨8, _⟩ => ⟨S32x1, .f32⟩
  | .local _ .vmem, ⟨9, _⟩ => ⟨S32x1, .f32⟩
  | .local _ .vmem, ⟨10, _⟩ => ⟨S32x16384, .f32⟩
  | .local _ .vmem, ⟨11, _⟩ => ⟨S8x128, .f32⟩
  | .local _ .vmem, ⟨12, _⟩ => ⟨S128x16384, .fp8e4m3⟩
  | .local _ .vmem, ⟨13, _⟩ => ⟨S128x1, .f32⟩
  | .local _ .vmem, ⟨14, _⟩ => ⟨S4096x512, .i8⟩
  | .local _ .vmem, ⟨15, _⟩ => ⟨S4096x512, .i8⟩
  | .local _ .vmem, ⟨16, _⟩ => ⟨S128x512, .bf16⟩
  | .local _ .vmem, ⟨17, _⟩ => ⟨S128x512, .bf16⟩
  | .local _ .smem, ⟨0, _⟩ => ⟨S1, .f32⟩
  | _, _ => ⟨S1x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  v2081
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2083 : Index := Scalar.indexCast v2082
  let c0_978 : Index := 0#32
  ![v2083.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2085 : Index := Scalar.indexCast v2082
  let c2048_979 : Index := 2048#32
  ![v2085.toNat, 2048]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2087 : Index := Scalar.indexCast v2082
  let c4096_980 : Index := 4096#32
  ![v2087.toNat, 4096]
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2089 : Index := Scalar.indexCast v2082
  let c6144_981 : Index := 6144#32
  ![v2089.toNat, 6144]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2091 : Index := Scalar.indexCast v2082
  let c8192_982 : Index := 8192#32
  ![v2091.toNat, 8192]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2093 : Index := Scalar.indexCast v2082
  let c10240_983 : Index := 10240#32
  ![v2093.toNat, 10240]
def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2095 : Index := Scalar.indexCast v2082
  let c12288_984 : Index := 12288#32
  ![v2095.toNat, 12288]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2097 : Index := Scalar.indexCast v2082
  let c14336_985 : Index := 14336#32
  ![v2097.toNat, 14336]
def k0_off9 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2155 : Index := Scalar.indexCast v2082
  let c256_994 : Index := 256#32
  ![v2155.toNat, 256]
def k0_off10 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2157 : Index := Scalar.indexCast v2082
  let c2304_995 : Index := 2304#32
  ![v2157.toNat, 2304]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2159 : Index := Scalar.indexCast v2082
  let c4352_996 : Index := 4352#32
  ![v2159.toNat, 4352]
def k0_off12 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2161 : Index := Scalar.indexCast v2082
  let c6400_997 : Index := 6400#32
  ![v2161.toNat, 6400]
def k0_off13 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2163 : Index := Scalar.indexCast v2082
  let c8448_998 : Index := 8448#32
  ![v2163.toNat, 8448]
def k0_off14 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2165 : Index := Scalar.indexCast v2082
  let c10496_999 : Index := 10496#32
  ![v2165.toNat, 10496]
def k0_off15 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2167 : Index := Scalar.indexCast v2082
  let c12544_1000 : Index := 12544#32
  ![v2167.toNat, 12544]
def k0_off16 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2169 : Index := Scalar.indexCast v2082
  let c14592_1001 : Index := 14592#32
  ![v2169.toNat, 14592]
def k0_off17 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2227 : Index := Scalar.indexCast v2082
  let c512_1010 : Index := 512#32
  ![v2227.toNat, 512]
def k0_off18 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2229 : Index := Scalar.indexCast v2082
  let c2560_1011 : Index := 2560#32
  ![v2229.toNat, 2560]
def k0_off19 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2231 : Index := Scalar.indexCast v2082
  let c4608_1012 : Index := 4608#32
  ![v2231.toNat, 4608]
def k0_off20 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2233 : Index := Scalar.indexCast v2082
  let c6656_1013 : Index := 6656#32
  ![v2233.toNat, 6656]
def k0_off21 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2235 : Index := Scalar.indexCast v2082
  let c8704_1014 : Index := 8704#32
  ![v2235.toNat, 8704]
def k0_off22 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2237 : Index := Scalar.indexCast v2082
  let c10752_1015 : Index := 10752#32
  ![v2237.toNat, 10752]
def k0_off23 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2239 : Index := Scalar.indexCast v2082
  let c12800_1016 : Index := 12800#32
  ![v2239.toNat, 12800]
def k0_off24 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2241 : Index := Scalar.indexCast v2082
  let c14848_1017 : Index := 14848#32
  ![v2241.toNat, 14848]
def k0_off25 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2299 : Index := Scalar.indexCast v2082
  let c768_1026 : Index := 768#32
  ![v2299.toNat, 768]
def k0_off26 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2301 : Index := Scalar.indexCast v2082
  let c2816_1027 : Index := 2816#32
  ![v2301.toNat, 2816]
def k0_off27 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2303 : Index := Scalar.indexCast v2082
  let c4864_1028 : Index := 4864#32
  ![v2303.toNat, 4864]
def k0_off28 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2305 : Index := Scalar.indexCast v2082
  let c6912_1029 : Index := 6912#32
  ![v2305.toNat, 6912]
def k0_off29 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2307 : Index := Scalar.indexCast v2082
  let c8960_1030 : Index := 8960#32
  ![v2307.toNat, 8960]
def k0_off30 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2309 : Index := Scalar.indexCast v2082
  let c11008_1031 : Index := 11008#32
  ![v2309.toNat, 11008]
def k0_off31 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2311 : Index := Scalar.indexCast v2082
  let c13056_1032 : Index := 13056#32
  ![v2311.toNat, 13056]
def k0_off32 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2313 : Index := Scalar.indexCast v2082
  let c15104_1033 : Index := 15104#32
  ![v2313.toNat, 15104]
def k0_off33 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2371 : Index := Scalar.indexCast v2082
  let c1024_1042 : Index := 1024#32
  ![v2371.toNat, 1024]
def k0_off34 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2373 : Index := Scalar.indexCast v2082
  let c3072_1043 : Index := 3072#32
  ![v2373.toNat, 3072]
def k0_off35 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2375 : Index := Scalar.indexCast v2082
  let c5120_1044 : Index := 5120#32
  ![v2375.toNat, 5120]
def k0_off36 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2377 : Index := Scalar.indexCast v2082
  let c7168_1045 : Index := 7168#32
  ![v2377.toNat, 7168]
def k0_off37 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2379 : Index := Scalar.indexCast v2082
  let c9216_1046 : Index := 9216#32
  ![v2379.toNat, 9216]
def k0_off38 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2381 : Index := Scalar.indexCast v2082
  let c11264_1047 : Index := 11264#32
  ![v2381.toNat, 11264]
def k0_off39 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2383 : Index := Scalar.indexCast v2082
  let c13312_1048 : Index := 13312#32
  ![v2383.toNat, 13312]
def k0_off40 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2385 : Index := Scalar.indexCast v2082
  let c15360_1049 : Index := 15360#32
  ![v2385.toNat, 15360]
def k0_off41 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2443 : Index := Scalar.indexCast v2082
  let c1280_1058 : Index := 1280#32
  ![v2443.toNat, 1280]
def k0_off42 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2445 : Index := Scalar.indexCast v2082
  let c3328_1059 : Index := 3328#32
  ![v2445.toNat, 3328]
def k0_off43 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2447 : Index := Scalar.indexCast v2082
  let c5376_1060 : Index := 5376#32
  ![v2447.toNat, 5376]
def k0_off44 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2449 : Index := Scalar.indexCast v2082
  let c7424_1061 : Index := 7424#32
  ![v2449.toNat, 7424]
def k0_off45 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2451 : Index := Scalar.indexCast v2082
  let c9472_1062 : Index := 9472#32
  ![v2451.toNat, 9472]
def k0_off46 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2453 : Index := Scalar.indexCast v2082
  let c11520_1063 : Index := 11520#32
  ![v2453.toNat, 11520]
def k0_off47 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2455 : Index := Scalar.indexCast v2082
  let c13568_1064 : Index := 13568#32
  ![v2455.toNat, 13568]
def k0_off48 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2457 : Index := Scalar.indexCast v2082
  let c15616_1065 : Index := 15616#32
  ![v2457.toNat, 15616]
def k0_off49 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2515 : Index := Scalar.indexCast v2082
  let c1536_1074 : Index := 1536#32
  ![v2515.toNat, 1536]
def k0_off50 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2517 : Index := Scalar.indexCast v2082
  let c3584_1075 : Index := 3584#32
  ![v2517.toNat, 3584]
def k0_off51 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2519 : Index := Scalar.indexCast v2082
  let c5632_1076 : Index := 5632#32
  ![v2519.toNat, 5632]
def k0_off52 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2521 : Index := Scalar.indexCast v2082
  let c7680_1077 : Index := 7680#32
  ![v2521.toNat, 7680]
def k0_off53 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2523 : Index := Scalar.indexCast v2082
  let c9728_1078 : Index := 9728#32
  ![v2523.toNat, 9728]
def k0_off54 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2525 : Index := Scalar.indexCast v2082
  let c11776_1079 : Index := 11776#32
  ![v2525.toNat, 11776]
def k0_off55 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2527 : Index := Scalar.indexCast v2082
  let c13824_1080 : Index := 13824#32
  ![v2527.toNat, 13824]
def k0_off56 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2529 : Index := Scalar.indexCast v2082
  let c15872_1081 : Index := 15872#32
  ![v2529.toNat, 15872]
def k0_off57 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2587 : Index := Scalar.indexCast v2082
  let c1792_1090 : Index := 1792#32
  ![v2587.toNat, 1792]
def k0_off58 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2589 : Index := Scalar.indexCast v2082
  let c3840_1091 : Index := 3840#32
  ![v2589.toNat, 3840]
def k0_off59 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2591 : Index := Scalar.indexCast v2082
  let c5888_1092 : Index := 5888#32
  ![v2591.toNat, 5888]
def k0_off60 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2593 : Index := Scalar.indexCast v2082
  let c7936_1093 : Index := 7936#32
  ![v2593.toNat, 7936]
def k0_off61 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2595 : Index := Scalar.indexCast v2082
  let c9984_1094 : Index := 9984#32
  ![v2595.toNat, 9984]
def k0_off62 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2597 : Index := Scalar.indexCast v2082
  let c12032_1095 : Index := 12032#32
  ![v2597.toNat, 12032]
def k0_off63 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2599 : Index := Scalar.indexCast v2082
  let c14080_1096 : Index := 14080#32
  ![v2599.toNat, 14080]
def k0_off64 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v2601 : Index := Scalar.indexCast v2082
  let c16128_1097 : Index := 16128#32
  ![v2601.toNat, 16128]
def k0_off65 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3235 : Index := Scalar.indexCast v2082
  let c128 : Index := 128#32
  ![v3235.toNat, 128]
def k0_off66 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3237 : Index := Scalar.indexCast v2082
  let c2176 : Index := 2176#32
  ![v3237.toNat, 2176]
def k0_off67 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3239 : Index := Scalar.indexCast v2082
  let c4224 : Index := 4224#32
  ![v3239.toNat, 4224]
def k0_off68 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3241 : Index := Scalar.indexCast v2082
  let c6272 : Index := 6272#32
  ![v3241.toNat, 6272]
def k0_off69 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3243 : Index := Scalar.indexCast v2082
  let c8320 : Index := 8320#32
  ![v3243.toNat, 8320]
def k0_off70 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3245 : Index := Scalar.indexCast v2082
  let c10368 : Index := 10368#32
  ![v3245.toNat, 10368]
def k0_off71 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3247 : Index := Scalar.indexCast v2082
  let c12416 : Index := 12416#32
  ![v3247.toNat, 12416]
def k0_off72 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3249 : Index := Scalar.indexCast v2082
  let c14464 : Index := 14464#32
  ![v3249.toNat, 14464]
def k0_off73 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3307 : Index := Scalar.indexCast v2082
  let c384 : Index := 384#32
  ![v3307.toNat, 384]
def k0_off74 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3309 : Index := Scalar.indexCast v2082
  let c2432 : Index := 2432#32
  ![v3309.toNat, 2432]
def k0_off75 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3311 : Index := Scalar.indexCast v2082
  let c4480 : Index := 4480#32
  ![v3311.toNat, 4480]
def k0_off76 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3313 : Index := Scalar.indexCast v2082
  let c6528 : Index := 6528#32
  ![v3313.toNat, 6528]
def k0_off77 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3315 : Index := Scalar.indexCast v2082
  let c8576 : Index := 8576#32
  ![v3315.toNat, 8576]
def k0_off78 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3317 : Index := Scalar.indexCast v2082
  let c10624 : Index := 10624#32
  ![v3317.toNat, 10624]
def k0_off79 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3319 : Index := Scalar.indexCast v2082
  let c12672 : Index := 12672#32
  ![v3319.toNat, 12672]
def k0_off80 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3321 : Index := Scalar.indexCast v2082
  let c14720 : Index := 14720#32
  ![v3321.toNat, 14720]
def k0_off81 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3379 : Index := Scalar.indexCast v2082
  let c640 : Index := 640#32
  ![v3379.toNat, 640]
def k0_off82 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3381 : Index := Scalar.indexCast v2082
  let c2688 : Index := 2688#32
  ![v3381.toNat, 2688]
def k0_off83 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3383 : Index := Scalar.indexCast v2082
  let c4736 : Index := 4736#32
  ![v3383.toNat, 4736]
def k0_off84 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3385 : Index := Scalar.indexCast v2082
  let c6784 : Index := 6784#32
  ![v3385.toNat, 6784]
def k0_off85 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3387 : Index := Scalar.indexCast v2082
  let c8832 : Index := 8832#32
  ![v3387.toNat, 8832]
def k0_off86 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3389 : Index := Scalar.indexCast v2082
  let c10880 : Index := 10880#32
  ![v3389.toNat, 10880]
def k0_off87 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3391 : Index := Scalar.indexCast v2082
  let c12928 : Index := 12928#32
  ![v3391.toNat, 12928]
def k0_off88 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3393 : Index := Scalar.indexCast v2082
  let c14976 : Index := 14976#32
  ![v3393.toNat, 14976]
def k0_off89 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3451 : Index := Scalar.indexCast v2082
  let c896 : Index := 896#32
  ![v3451.toNat, 896]
def k0_off90 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3453 : Index := Scalar.indexCast v2082
  let c2944 : Index := 2944#32
  ![v3453.toNat, 2944]
def k0_off91 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3455 : Index := Scalar.indexCast v2082
  let c4992 : Index := 4992#32
  ![v3455.toNat, 4992]
def k0_off92 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3457 : Index := Scalar.indexCast v2082
  let c7040 : Index := 7040#32
  ![v3457.toNat, 7040]
def k0_off93 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3459 : Index := Scalar.indexCast v2082
  let c9088 : Index := 9088#32
  ![v3459.toNat, 9088]
def k0_off94 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3461 : Index := Scalar.indexCast v2082
  let c11136 : Index := 11136#32
  ![v3461.toNat, 11136]
def k0_off95 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3463 : Index := Scalar.indexCast v2082
  let c13184 : Index := 13184#32
  ![v3463.toNat, 13184]
def k0_off96 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3465 : Index := Scalar.indexCast v2082
  let c15232 : Index := 15232#32
  ![v3465.toNat, 15232]
def k0_off97 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3523 : Index := Scalar.indexCast v2082
  let c1152 : Index := 1152#32
  ![v3523.toNat, 1152]
def k0_off98 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3525 : Index := Scalar.indexCast v2082
  let c3200 : Index := 3200#32
  ![v3525.toNat, 3200]
def k0_off99 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3527 : Index := Scalar.indexCast v2082
  let c5248 : Index := 5248#32
  ![v3527.toNat, 5248]
def k0_off100 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3529 : Index := Scalar.indexCast v2082
  let c7296 : Index := 7296#32
  ![v3529.toNat, 7296]
def k0_off101 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3531 : Index := Scalar.indexCast v2082
  let c9344 : Index := 9344#32
  ![v3531.toNat, 9344]
def k0_off102 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3533 : Index := Scalar.indexCast v2082
  let c11392 : Index := 11392#32
  ![v3533.toNat, 11392]
def k0_off103 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3535 : Index := Scalar.indexCast v2082
  let c13440 : Index := 13440#32
  ![v3535.toNat, 13440]
def k0_off104 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3537 : Index := Scalar.indexCast v2082
  let c15488 : Index := 15488#32
  ![v3537.toNat, 15488]
def k0_off105 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3595 : Index := Scalar.indexCast v2082
  let c1408 : Index := 1408#32
  ![v3595.toNat, 1408]
def k0_off106 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3597 : Index := Scalar.indexCast v2082
  let c3456 : Index := 3456#32
  ![v3597.toNat, 3456]
def k0_off107 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3599 : Index := Scalar.indexCast v2082
  let c5504 : Index := 5504#32
  ![v3599.toNat, 5504]
def k0_off108 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3601 : Index := Scalar.indexCast v2082
  let c7552 : Index := 7552#32
  ![v3601.toNat, 7552]
def k0_off109 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3603 : Index := Scalar.indexCast v2082
  let c9600 : Index := 9600#32
  ![v3603.toNat, 9600]
def k0_off110 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3605 : Index := Scalar.indexCast v2082
  let c11648 : Index := 11648#32
  ![v3605.toNat, 11648]
def k0_off111 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3607 : Index := Scalar.indexCast v2082
  let c13696 : Index := 13696#32
  ![v3607.toNat, 13696]
def k0_off112 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3609 : Index := Scalar.indexCast v2082
  let c15744 : Index := 15744#32
  ![v3609.toNat, 15744]
def k0_off113 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3667 : Index := Scalar.indexCast v2082
  let c1664 : Index := 1664#32
  ![v3667.toNat, 1664]
def k0_off114 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3669 : Index := Scalar.indexCast v2082
  let c3712 : Index := 3712#32
  ![v3669.toNat, 3712]
def k0_off115 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3671 : Index := Scalar.indexCast v2082
  let c5760 : Index := 5760#32
  ![v3671.toNat, 5760]
def k0_off116 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3673 : Index := Scalar.indexCast v2082
  let c7808 : Index := 7808#32
  ![v3673.toNat, 7808]
def k0_off117 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3675 : Index := Scalar.indexCast v2082
  let c9856 : Index := 9856#32
  ![v3675.toNat, 9856]
def k0_off118 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3677 : Index := Scalar.indexCast v2082
  let c11904 : Index := 11904#32
  ![v3677.toNat, 11904]
def k0_off119 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3679 : Index := Scalar.indexCast v2082
  let c13952 : Index := 13952#32
  ![v3679.toNat, 13952]
def k0_off120 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3681 : Index := Scalar.indexCast v2082
  let c16000 : Index := 16000#32
  ![v3681.toNat, 16000]
def k0_off121 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3739 : Index := Scalar.indexCast v2082
  let c1920 : Index := 1920#32
  ![v3739.toNat, 1920]
def k0_off122 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3741 : Index := Scalar.indexCast v2082
  let c3968 : Index := 3968#32
  ![v3741.toNat, 3968]
def k0_off123 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3743 : Index := Scalar.indexCast v2082
  let c6016 : Index := 6016#32
  ![v3743.toNat, 6016]
def k0_off124 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3745 : Index := Scalar.indexCast v2082
  let c8064 : Index := 8064#32
  ![v3745.toNat, 8064]
def k0_off125 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3747 : Index := Scalar.indexCast v2082
  let c10112 : Index := 10112#32
  ![v3747.toNat, 10112]
def k0_off126 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3749 : Index := Scalar.indexCast v2082
  let c12160 : Index := 12160#32
  ![v3749.toNat, 12160]
def k0_off127 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3751 : Index := Scalar.indexCast v2082
  let c14208 : Index := 14208#32
  ![v3751.toNat, 14208]
def k0_off128 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v2081 : BitVec 32 := Scalar.muli arg9 c8_i32
  let v2082 : BitVec 32 := v2081
  let v3753 : Index := Scalar.indexCast v2082
  let c16256 : Index := 16256#32
  ![v3753.toNat, 16256]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x16384 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![14], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x16384 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S1x128x16384 : Shape := ⟨3, ![1, 128, 16384]⟩
abbrev S16384 : Shape := ⟨1, ![16384]⟩
abbrev S4096x7168 : Shape := ⟨2, ![4096, 7168]⟩
abbrev S1 : Shape := ⟨1, ![1]⟩
abbrev S_ : Shape := ⟨0, ![]⟩
abbrev S1x128 : Shape := ⟨2, ![1, 128]⟩
abbrev S1x128x1 : Shape := ⟨3, ![1, 128, 1]⟩
abbrev S1x1x16384 : Shape := ⟨3, ![1, 1, 16384]⟩
abbrev S1x128x1x2x8192 : Shape := ⟨5, ![1, 128, 1, 2, 8192]⟩
abbrev S1x128x1x1x8192 : Shape := ⟨5, ![1, 128, 1, 1, 8192]⟩
abbrev S1x128x1x8192 : Shape := ⟨4, ![1, 128, 1, 8192]⟩
abbrev S1x128x2x2x4096 : Shape := ⟨5, ![1, 128, 2, 2, 4096]⟩
abbrev S1x128x2x1x4096 : Shape := ⟨5, ![1, 128, 2, 1, 4096]⟩
abbrev S1x128x2x4096 : Shape := ⟨4, ![1, 128, 2, 4096]⟩
abbrev S1x128x4x2x2048 : Shape := ⟨5, ![1, 128, 4, 2, 2048]⟩
abbrev S1x128x4x1x2048 : Shape := ⟨5, ![1, 128, 4, 1, 2048]⟩
abbrev S1x128x4x2048 : Shape := ⟨4, ![1, 128, 4, 2048]⟩
abbrev S1x128x8x2x1024 : Shape := ⟨5, ![1, 128, 8, 2, 1024]⟩
abbrev S1x128x8x1x1024 : Shape := ⟨5, ![1, 128, 8, 1, 1024]⟩
abbrev S1x128x8x1024 : Shape := ⟨4, ![1, 128, 8, 1024]⟩
abbrev S1x128x16x2x512 : Shape := ⟨5, ![1, 128, 16, 2, 512]⟩
abbrev S1x128x16x1x512 : Shape := ⟨5, ![1, 128, 16, 1, 512]⟩
abbrev S1x128x16x512 : Shape := ⟨4, ![1, 128, 16, 512]⟩
abbrev S1x128x32x2x256 : Shape := ⟨5, ![1, 128, 32, 2, 256]⟩
abbrev S1x128x32x1x256 : Shape := ⟨5, ![1, 128, 32, 1, 256]⟩
abbrev S1x128x32x256 : Shape := ⟨4, ![1, 128, 32, 256]⟩
abbrev S1x128x64x2x128 : Shape := ⟨5, ![1, 128, 64, 2, 128]⟩
abbrev S1x128x64x1x128 : Shape := ⟨5, ![1, 128, 64, 1, 128]⟩
abbrev S1x128x64x128 : Shape := ⟨4, ![1, 128, 64, 128]⟩
abbrev S1x128x128x2x64 : Shape := ⟨5, ![1, 128, 128, 2, 64]⟩
abbrev S1x128x128x1x64 : Shape := ⟨5, ![1, 128, 128, 1, 64]⟩
abbrev S1x128x128x64 : Shape := ⟨4, ![1, 128, 128, 64]⟩
abbrev S1x128x256x2x32 : Shape := ⟨5, ![1, 128, 256, 2, 32]⟩
abbrev S1x128x256x1x32 : Shape := ⟨5, ![1, 128, 256, 1, 32]⟩
abbrev S1x128x256x32 : Shape := ⟨4, ![1, 128, 256, 32]⟩
abbrev S1x128x512x2x16 : Shape := ⟨5, ![1, 128, 512, 2, 16]⟩
abbrev S1x128x512x1x16 : Shape := ⟨5, ![1, 128, 512, 1, 16]⟩
abbrev S1x128x512x16 : Shape := ⟨4, ![1, 128, 512, 16]⟩
abbrev S1x128x1024x2x8 : Shape := ⟨5, ![1, 128, 1024, 2, 8]⟩
abbrev S1x128x1024x1x8 : Shape := ⟨5, ![1, 128, 1024, 1, 8]⟩
abbrev S1x128x1024x8 : Shape := ⟨4, ![1, 128, 1024, 8]⟩
abbrev S1x128x2048x2x4 : Shape := ⟨5, ![1, 128, 2048, 2, 4]⟩
abbrev S1x128x2048x1x4 : Shape := ⟨5, ![1, 128, 2048, 1, 4]⟩
abbrev S1x128x2048x4 : Shape := ⟨4, ![1, 128, 2048, 4]⟩
abbrev S1x128x4096x2x2 : Shape := ⟨5, ![1, 128, 4096, 2, 2]⟩
abbrev S1x128x4096x1x2 : Shape := ⟨5, ![1, 128, 4096, 1, 2]⟩
abbrev S1x128x4096x2 : Shape := ⟨4, ![1, 128, 4096, 2]⟩
abbrev S1x128x8192x2x1 : Shape := ⟨5, ![1, 128, 8192, 2, 1]⟩
abbrev S1x128x8192x1x1 : Shape := ⟨5, ![1, 128, 8192, 1, 1]⟩
abbrev S1x128x8192x1 : Shape := ⟨4, ![1, 128, 8192, 1]⟩
abbrev S128x16384 : Shape := ⟨2, ![128, 16384]⟩
abbrev S128x7168 : Shape := ⟨2, ![128, 7168]⟩
abbrev S128x1 : Shape := ⟨2, ![128, 1]⟩
abbrev S128 : Shape := ⟨1, ![128]⟩
abbrev S128x4096 : Shape := ⟨2, ![128, 4096]⟩
abbrev S1x128x7168 : Shape := ⟨3, ![1, 128, 7168]⟩

abbrev nBuf : Space → Nat
  | .hbm => 229
  | .vmem => 8
  | .smem => 1
  | _ => 0

abbrev hbmTy0_0 (i : Nat) : BufTy := match i % 128 with
  | 0 => ⟨S1x128x16384, .bf16⟩
  | 1 => ⟨S16384, .f32⟩
  | 2 => ⟨S4096x7168, .i8⟩
  | 3 => ⟨S1, .f32⟩
  | 4 => ⟨S1x128x16384, .f32⟩
  | 5 => ⟨S1x128x16384, .f32⟩
  | 6 => ⟨S_, .f32⟩
  | 7 => ⟨S1x128, .f32⟩
  | 8 => ⟨S1x128x1, .f32⟩
  | 9 => ⟨S_, .f32⟩
  | 10 => ⟨S1x128x1, .f32⟩
  | 11 => ⟨S1x128x1, .f32⟩
  | 12 => ⟨S_, .f32⟩
  | 13 => ⟨S1x128x1, .f32⟩
  | 14 => ⟨S1x128x1, .f32⟩
  | 15 => ⟨S1x128x1, .f32⟩
  | 16 => ⟨S1x128x16384, .f32⟩
  | 17 => ⟨S1x128x16384, .f32⟩
  | 18 => ⟨S1x1x16384, .f32⟩
  | 19 => ⟨S1x128x16384, .f32⟩
  | 20 => ⟨S1x128x16384, .f32⟩
  | 21 => ⟨S1x128x1x2x8192, .f32⟩
  | 22 => ⟨S1x128x1x1x8192, .f32⟩
  | 23 => ⟨S1x128x1x8192, .f32⟩
  | 24 => ⟨S1x128x1x1x8192, .f32⟩
  | 25 => ⟨S1x128x1x8192, .f32⟩
  | 26 => ⟨S1x128x1x8192, .f32⟩
  | 27 => ⟨S1x128x1x8192, .f32⟩
  | 28 => ⟨S1x128x1x1x8192, .f32⟩
  | 29 => ⟨S1x128x1x1x8192, .f32⟩
  | 30 => ⟨S1x128x1x2x8192, .f32⟩
  | 31 => ⟨S1x128x16384, .f32⟩
  | 32 => ⟨S1x128x2x2x4096, .f32⟩
  | 33 => ⟨S1x128x2x1x4096, .f32⟩
  | 34 => ⟨S1x128x2x4096, .f32⟩
  | 35 => ⟨S1x128x2x1x4096, .f32⟩
  | 36 => ⟨S1x128x2x4096, .f32⟩
  | 37 => ⟨S1x128x2x4096, .f32⟩
  | 38 => ⟨S1x128x2x4096, .f32⟩
  | 39 => ⟨S1x128x2x1x4096, .f32⟩
  | 40 => ⟨S1x128x2x1x4096, .f32⟩
  | 41 => ⟨S1x128x2x2x4096, .f32⟩
  | 42 => ⟨S1x128x16384, .f32⟩
  | 43 => ⟨S1x128x4x2x2048, .f32⟩
  | 44 => ⟨S1x128x4x1x2048, .f32⟩
  | 45 => ⟨S1x128x4x2048, .f32⟩
  | 46 => ⟨S1x128x4x1x2048, .f32⟩
  | 47 => ⟨S1x128x4x2048, .f32⟩
  | 48 => ⟨S1x128x4x2048, .f32⟩
  | 49 => ⟨S1x128x4x2048, .f32⟩
  | 50 => ⟨S1x128x4x1x2048, .f32⟩
  | 51 => ⟨S1x128x4x1x2048, .f32⟩
  | 52 => ⟨S1x128x4x2x2048, .f32⟩
  | 53 => ⟨S1x128x16384, .f32⟩
  | 54 => ⟨S1x128x8x2x1024, .f32⟩
  | 55 => ⟨S1x128x8x1x1024, .f32⟩
  | 56 => ⟨S1x128x8x1024, .f32⟩
  | 57 => ⟨S1x128x8x1x1024, .f32⟩
  | 58 => ⟨S1x128x8x1024, .f32⟩
  | 59 => ⟨S1x128x8x1024, .f32⟩
  | 60 => ⟨S1x128x8x1024, .f32⟩
  | 61 => ⟨S1x128x8x1x1024, .f32⟩
  | 62 => ⟨S1x128x8x1x1024, .f32⟩
  | 63 => ⟨S1x128x8x2x1024, .f32⟩
  | 64 => ⟨S1x128x16384, .f32⟩
  | 65 => ⟨S1x128x16x2x512, .f32⟩
  | 66 => ⟨S1x128x16x1x512, .f32⟩
  | 67 => ⟨S1x128x16x512, .f32⟩
  | 68 => ⟨S1x128x16x1x512, .f32⟩
  | 69 => ⟨S1x128x16x512, .f32⟩
  | 70 => ⟨S1x128x16x512, .f32⟩
  | 71 => ⟨S1x128x16x512, .f32⟩
  | 72 => ⟨S1x128x16x1x512, .f32⟩
  | 73 => ⟨S1x128x16x1x512, .f32⟩
  | 74 => ⟨S1x128x16x2x512, .f32⟩
  | 75 => ⟨S1x128x16384, .f32⟩
  | 76 => ⟨S1x128x32x2x256, .f32⟩
  | 77 => ⟨S1x128x32x1x256, .f32⟩
  | 78 => ⟨S1x128x32x256, .f32⟩
  | 79 => ⟨S1x128x32x1x256, .f32⟩
  | 80 => ⟨S1x128x32x256, .f32⟩
  | 81 => ⟨S1x128x32x256, .f32⟩
  | 82 => ⟨S1x128x32x256, .f32⟩
  | 83 => ⟨S1x128x32x1x256, .f32⟩
  | 84 => ⟨S1x128x32x1x256, .f32⟩
  | 85 => ⟨S1x128x32x2x256, .f32⟩
  | 86 => ⟨S1x128x16384, .f32⟩
  | 87 => ⟨S1x128x64x2x128, .f32⟩
  | 88 => ⟨S1x128x64x1x128, .f32⟩
  | 89 => ⟨S1x128x64x128, .f32⟩
  | 90 => ⟨S1x128x64x1x128, .f32⟩
  | 91 => ⟨S1x128x64x128, .f32⟩
  | 92 => ⟨S1x128x64x128, .f32⟩
  | 93 => ⟨S1x128x64x128, .f32⟩
  | 94 => ⟨S1x128x64x1x128, .f32⟩
  | 95 => ⟨S1x128x64x1x128, .f32⟩
  | 96 => ⟨S1x128x64x2x128, .f32⟩
  | 97 => ⟨S1x128x16384, .f32⟩
  | 98 => ⟨S1x128x128x2x64, .f32⟩
  | 99 => ⟨S1x128x128x1x64, .f32⟩
  | 100 => ⟨S1x128x128x64, .f32⟩
  | 101 => ⟨S1x128x128x1x64, .f32⟩
  | 102 => ⟨S1x128x128x64, .f32⟩
  | 103 => ⟨S1x128x128x64, .f32⟩
  | 104 => ⟨S1x128x128x64, .f32⟩
  | 105 => ⟨S1x128x128x1x64, .f32⟩
  | 106 => ⟨S1x128x128x1x64, .f32⟩
  | 107 => ⟨S1x128x128x2x64, .f32⟩
  | 108 => ⟨S1x128x16384, .f32⟩
  | 109 => ⟨S1x128x256x2x32, .f32⟩
  | 110 => ⟨S1x128x256x1x32, .f32⟩
  | 111 => ⟨S1x128x256x32, .f32⟩
  | 112 => ⟨S1x128x256x1x32, .f32⟩
  | 113 => ⟨S1x128x256x32, .f32⟩
  | 114 => ⟨S1x128x256x32, .f32⟩
  | 115 => ⟨S1x128x256x32, .f32⟩
  | 116 => ⟨S1x128x256x1x32, .f32⟩
  | 117 => ⟨S1x128x256x1x32, .f32⟩
  | 118 => ⟨S1x128x256x2x32, .f32⟩
  | 119 => ⟨S1x128x16384, .f32⟩
  | 120 => ⟨S1x128x512x2x16, .f32⟩
  | 121 => ⟨S1x128x512x1x16, .f32⟩
  | 122 => ⟨S1x128x512x16, .f32⟩
  | 123 => ⟨S1x128x512x1x16, .f32⟩
  | 124 => ⟨S1x128x512x16, .f32⟩
  | 125 => ⟨S1x128x512x16, .f32⟩
  | 126 => ⟨S1x128x512x16, .f32⟩
  | 127 => ⟨S1x128x512x1x16, .f32⟩
  | _ => ⟨S1x128x16384, .bf16⟩

abbrev hbmTy0_1 (i : Nat) : BufTy := match i % 128 with
  | 0 => ⟨S1x128x512x1x16, .f32⟩
  | 1 => ⟨S1x128x512x2x16, .f32⟩
  | 2 => ⟨S1x128x16384, .f32⟩
  | 3 => ⟨S1x128x1024x2x8, .f32⟩
  | 4 => ⟨S1x128x1024x1x8, .f32⟩
  | 5 => ⟨S1x128x1024x8, .f32⟩
  | 6 => ⟨S1x128x1024x1x8, .f32⟩
  | 7 => ⟨S1x128x1024x8, .f32⟩
  | 8 => ⟨S1x128x1024x8, .f32⟩
  | 9 => ⟨S1x128x1024x8, .f32⟩
  | 10 => ⟨S1x128x1024x1x8, .f32⟩
  | 11 => ⟨S1x128x1024x1x8, .f32⟩
  | 12 => ⟨S1x128x1024x2x8, .f32⟩
  | 13 => ⟨S1x128x16384, .f32⟩
  | 14 => ⟨S1x128x2048x2x4, .f32⟩
  | 15 => ⟨S1x128x2048x1x4, .f32⟩
  | 16 => ⟨S1x128x2048x4, .f32⟩
  | 17 => ⟨S1x128x2048x1x4, .f32⟩
  | 18 => ⟨S1x128x2048x4, .f32⟩
  | 19 => ⟨S1x128x2048x4, .f32⟩
  | 20 => ⟨S1x128x2048x4, .f32⟩
  | 21 => ⟨S1x128x2048x1x4, .f32⟩
  | 22 => ⟨S1x128x2048x1x4, .f32⟩
  | 23 => ⟨S1x128x2048x2x4, .f32⟩
  | 24 => ⟨S1x128x16384, .f32⟩
  | 25 => ⟨S1x128x4096x2x2, .f32⟩
  | 26 => ⟨S1x128x4096x1x2, .f32⟩
  | 27 => ⟨S1x128x4096x2, .f32⟩
  | 28 => ⟨S1x128x4096x1x2, .f32⟩
  | 29 => ⟨S1x128x4096x2, .f32⟩
  | 30 => ⟨S1x128x4096x2, .f32⟩
  | 31 => ⟨S1x128x4096x2, .f32⟩
  | 32 => ⟨S1x128x4096x1x2, .f32⟩
  | 33 => ⟨S1x128x4096x1x2, .f32⟩
  | 34 => ⟨S1x128x4096x2x2, .f32⟩
  | 35 => ⟨S1x128x16384, .f32⟩
  | 36 => ⟨S1x128x8192x2x1, .f32⟩
  | 37 => ⟨S1x128x8192x1x1, .f32⟩
  | 38 => ⟨S1x128x8192x1, .f32⟩
  | 39 => ⟨S1x128x8192x1x1, .f32⟩
  | 40 => ⟨S1x128x8192x1, .f32⟩
  | 41 => ⟨S1x128x8192x1, .f32⟩
  | 42 => ⟨S1x128x8192x1, .f32⟩
  | 43 => ⟨S1x128x8192x1x1, .f32⟩
  | 44 => ⟨S1x128x8192x1x1, .f32⟩
  | 45 => ⟨S1x128x8192x2x1, .f32⟩
  | 46 => ⟨S1x128x16384, .f32⟩
  | 47 => ⟨S_, .f32⟩
  | 48 => ⟨S1x128x16384, .f32⟩
  | 49 => ⟨S1x128x16384, .f32⟩
  | 50 => ⟨S4096x7168, .i32⟩
  | 51 => ⟨S_, .i32⟩
  | 52 => ⟨S4096x7168, .i32⟩
  | 53 => ⟨S4096x7168, .i32⟩
  | 54 => ⟨S_, .i32⟩
  | 55 => ⟨S4096x7168, .i32⟩
  | 56 => ⟨S4096x7168, .i32⟩
  | 57 => ⟨S_, .i32⟩
  | 58 => ⟨S4096x7168, .i32⟩
  | 59 => ⟨S4096x7168, .i32⟩
  | 60 => ⟨S4096x7168, .i8⟩
  | 61 => ⟨S4096x7168, .i32⟩
  | 62 => ⟨S_, .i32⟩
  | 63 => ⟨S4096x7168, .i32⟩
  | 64 => ⟨S4096x7168, .i32⟩
  | 65 => ⟨S_, .i32⟩
  | 66 => ⟨S4096x7168, .i32⟩
  | 67 => ⟨S4096x7168, .i32⟩
  | 68 => ⟨S_, .i32⟩
  | 69 => ⟨S4096x7168, .i32⟩
  | 70 => ⟨S4096x7168, .i32⟩
  | 71 => ⟨S4096x7168, .i8⟩
  | 72 => ⟨S4096x7168, .i32⟩
  | 73 => ⟨S_, .i32⟩
  | 74 => ⟨S4096x7168, .i32⟩
  | 75 => ⟨S4096x7168, .i32⟩
  | 76 => ⟨S_, .i32⟩
  | 77 => ⟨S4096x7168, .i32⟩
  | 78 => ⟨S4096x7168, .i32⟩
  | 79 => ⟨S_, .i32⟩
  | 80 => ⟨S4096x7168, .i32⟩
  | 81 => ⟨S4096x7168, .i32⟩
  | 82 => ⟨S4096x7168, .i8⟩
  | 83 => ⟨S4096x7168, .i32⟩
  | 84 => ⟨S_, .i32⟩
  | 85 => ⟨S4096x7168, .i32⟩
  | 86 => ⟨S4096x7168, .i32⟩
  | 87 => ⟨S_, .i32⟩
  | 88 => ⟨S4096x7168, .i32⟩
  | 89 => ⟨S4096x7168, .i32⟩
  | 90 => ⟨S_, .i32⟩
  | 91 => ⟨S4096x7168, .i32⟩
  | 92 => ⟨S4096x7168, .i32⟩
  | 93 => ⟨S4096x7168, .i8⟩
  | 94 => ⟨S128x16384, .f32⟩
  | 95 => ⟨S128x7168, .bf16⟩
  | 96 => ⟨S128x16384, .i8⟩
  | 97 => ⟨S128x1, .f32⟩
  | 98 => ⟨S1x128x7168, .bf16⟩
  | 99 => ⟨S1x128x16384, .i8⟩
  | 100 => ⟨S1x128, .f32⟩
  | _ => ⟨S1x128x16384, .bf16⟩

abbrev hbmTy (i : Nat) : BufTy := match i / 128 with
  | 0 => hbmTy0_0 i
  | 1 => hbmTy0_1 i
  | _ => ⟨S1x128x16384, .bf16⟩

abbrev bufTy : (tb : Table) → Fin (tcTables nBuf tb) → BufTy
  | .hbm, ⟨i, _⟩ => hbmTy i
  | .local _ .vmem, ⟨0, _⟩ => ⟨S128x16384, .f32⟩
  | .local _ .vmem, ⟨1, _⟩ => ⟨S4096x7168, .i8⟩
  | .local _ .vmem, ⟨2, _⟩ => ⟨S4096x7168, .i8⟩
  | .local _ .vmem, ⟨3, _⟩ => ⟨S4096x7168, .i8⟩
  | .local _ .vmem, ⟨4, _⟩ => ⟨S4096x7168, .i8⟩
  | .local _ .vmem, ⟨5, _⟩ => ⟨S128x7168, .bf16⟩
  | .local _ .vmem, ⟨6, _⟩ => ⟨S128x16384, .i8⟩
  | .local _ .vmem, ⟨7, _⟩ => ⟨S128x1, .f32⟩
  | .local _ .smem, ⟨0, _⟩ => ⟨S1, .f32⟩
  | _, _ => ⟨S1x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_cst_2 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_c : Ref sig .tc := ⟨.hbm, 179, rfl⟩
abbrev main_v171 : Ref sig .tc := ⟨.hbm, 180, rfl⟩
abbrev main_v172 : Ref sig .tc := ⟨.hbm, 181, rfl⟩
abbrev main_c_3 : Ref sig .tc := ⟨.hbm, 182, rfl⟩
abbrev main_v173 : Ref sig .tc := ⟨.hbm, 183, rfl⟩
abbrev main_v174 : Ref sig .tc := ⟨.hbm, 184, rfl⟩
abbrev main_c_4 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_c_5 : Ref sig .tc := ⟨.hbm, 190, rfl⟩
abbrev main_v179 : Ref sig .tc := ⟨.hbm, 191, rfl⟩
abbrev main_v180 : Ref sig .tc := ⟨.hbm, 192, rfl⟩
abbrev main_c_6 : Ref sig .tc := ⟨.hbm, 193, rfl⟩
abbrev main_v181 : Ref sig .tc := ⟨.hbm, 194, rfl⟩
abbrev main_v182 : Ref sig .tc := ⟨.hbm, 195, rfl⟩
abbrev main_c_7 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_c_8 : Ref sig .tc := ⟨.hbm, 201, rfl⟩
abbrev main_v187 : Ref sig .tc := ⟨.hbm, 202, rfl⟩
abbrev main_v188 : Ref sig .tc := ⟨.hbm, 203, rfl⟩
abbrev main_c_9 : Ref sig .tc := ⟨.hbm, 204, rfl⟩
abbrev main_v189 : Ref sig .tc := ⟨.hbm, 205, rfl⟩
abbrev main_v190 : Ref sig .tc := ⟨.hbm, 206, rfl⟩
abbrev main_c_10 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_c_11 : Ref sig .tc := ⟨.hbm, 212, rfl⟩
abbrev main_v195 : Ref sig .tc := ⟨.hbm, 213, rfl⟩
abbrev main_v196 : Ref sig .tc := ⟨.hbm, 214, rfl⟩
abbrev main_c_12 : Ref sig .tc := ⟨.hbm, 215, rfl⟩
abbrev main_v197 : Ref sig .tc := ⟨.hbm, 216, rfl⟩
abbrev main_v198 : Ref sig .tc := ⟨.hbm, 217, rfl⟩
abbrev main_c_13 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203_0 : Ref sig .tc := ⟨.hbm, 223, rfl⟩
abbrev main_v203_1 : Ref sig .tc := ⟨.hbm, 224, rfl⟩
abbrev main_v203_2 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S128x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x7168 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x7168 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x16384 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KMat.lean ====
/- The second kernel call as a recursion over its 64 products: row block `k / 4` of the packed weights, field `k % 4`; the
   generated run is that recursion. -/
module

public import proofs.«01_k».proof.Proof.Gen.KernelIdeal.Frame
public import Idealize.ShloMosaic.Lib.Pipeline.Value

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]

/-- The columns of the codes the product `k` takes. -/
def mxRect (k : ℕ) : Rect S128x16384 :=
  Rect.unit ![0, 4096 * (k % 4) + 256 * (k / 4 % 16)] S128x256.size (by
    intro a
    match a with
    | ⟨0, _⟩ => show 0 + 128 ≤ 128; omega
    | ⟨1, _⟩ => show 4096 * (k % 4) + 256 * (k / 4 % 16) + 256 ≤ 16384; omega)

/-- The rows of the packed weights the product `k` takes. -/
def mwRect (k : ℕ) : Rect S4096x512 :=
  Rect.unit ![256 * (k / 4 % 16), 0] S256x512.size (by
    intro a
    match a with
    | ⟨0, _⟩ => show 256 * (k / 4 % 16) + 256 ≤ 4096; omega
    | ⟨1, _⟩ => show 0 + 512 ≤ 512; omega)

/-- Field `f` of packed rows `w`, as the floats whose leading bits it is. -/
def mField (w : IVec S256x512 8) (f : ℕ) : FVec F S256x512 .fp8e4m3 :=
  bitcastToFloat .fp8e4m3 (bitcast S256x512 8
    (andi (shli (xori (bitcast S64x512 32 w bitcasts_S256x512_w8_S64x512_w32) (constantI S64x512 32 4294967295#32))
      (broadcast S64x512 (BitVec.ofNat 32 (6 - 2 * f)))) (broadcast S64x512 3233857728#32))
    bitcasts_S64x512_w32_S256x512_w8)

/-- The product `k`. -/
def mPart (x : ℕ → FVec F S128x256 .fp8e4m3) (w : ℕ → IVec S256x512 8) (k : ℕ) : FVec F S128x512 .f32 :=
  matmul dot_S128x256_S256x512_S128x512_1_0_0_1_n_n none (shapeCast S128x256 (x k) shapeCasts_S128x256_S128x256)
    (mField (w k) (k % 4)) (constant S128x512 .f32 0x00000000#32)

/-- The products up to `k`, summed in order. -/
def mAcc (x : ℕ → FVec F S128x256 .fp8e4m3) (w : ℕ → IVec S256x512 8) : ℕ → FVec F S128x512 .f32
  | 0 => mPart x w 0
  | k + 1 => addf (mAcc x w k) (mPart x w (k + 1))

/-- The stored block. -/
def mOut (acc : FVec F S128x512 .f32) (s : FVec F S128x1 .f32) (ws : F .f32) : FVec F S128x512 .bf16 :=
  truncf .bf16 (mulf (mulf (mulf acc (broadcast S128x512 (Scalar.ofBits .f32 0x3F000000#32)))
    (broadcastTo S128x512 (shapeCast S128x1 s shapeCasts_S128x1_S128x1) broadcasts_S128x1_S128x512))
    (broadcast S128x512 ws)) bitsLt_bf16_f32

theorem run1_eq (c : Dev nD) (i : grid1.Coords) (arg1 : Memref sig .tc .vmem S128x16384 .fp8e4m3) (harg1 : arg1.IsWhole) (arg2 : Memref sig .tc .vmem S128x1 .f32) (harg2 : arg2.IsWhole) (arg3 : Memref sig .tc .smem S1 .f32) (harg3 : arg3.IsWhole) (arg4 : Memref sig .tc .vmem S4096x512 .i8) (harg4 : arg4.IsWhole) (arg5 : Memref sig .tc .vmem S128x512 .bf16) (harg5 : arg5.IsWhole)
    (x0 : Vec F S128x16384 .fp8e4m3) (x1 : Vec F S128x1 .f32) (x2 : Vec F S1 .f32) (x3 : Vec F S4096x512 .i8) :
    (kernelRun1_A (F := F) c i arg1 harg1 arg2 harg2 arg3 harg3 arg4 harg4 arg5 harg5 x0 x1 x2 x3).1
      = [⟨Rect.unit ![0, 0] ![128, 512] inb_S128x512_S128x512_0_0,
          mOut (mAcc (fun k => View.readAt (Elt F) arg1.view (mxRect k).toLoadRect (harg1.unread x0))
                (fun k => View.readAt (Elt F) arg4.view (mwRect k).toLoadRect (harg4.unread x3)) 63)
            (View.readAt (Elt F) arg2.view (Rect.unit ![0, 0] S128x1.size inb_S128x1_S128x1_0_0).toLoadRect (harg2.unread x1))
            (View.readAt (Elt F) arg3.view (Rect.unit ![0] S1.size inb_S1_S1_0).toLoadRect (harg3.unread x2)
              (Shape.Idx.first (by decide)))⟩] := by sl_kernel_rfl

end Cert.KernelIdeal.Val
-- ==== Proof.KTrip.lean ====
/- The kernel's row loop as a recursion: one trip stores 32 groups of eight blocks, each group a radix-8 butterfly
   of the eight blocks it loads, and the generated trip is that recursion. -/
module

public import proofs.«01_k».proof.Proof.Gen.KernelIdeal.Loops
public import Idealize.ShloMosaic.Lib.Pipeline.FrameBody
public import Idealize.ShloMosaic.Lib.Pipeline.Value

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]

/-- One stage of the butterfly on eight blocks, distance `m`. -/
def bfF (v : ℕ → FVec F S8x128 .f32) (m : ℕ) : ℕ → FVec F S8x128 .f32 := fun i =>
  cond (Nat.beq (i / m % 2) 0) (addf (v i) (v (i + m))) (subf (v (i - m)) (v i))

/-- The first column of block `t` of group `g`. -/
def col (g t : ℕ) : ℕ :=
  cond (Nat.beq (g / 8 % 2) 0) (2048 * (t % 8) + 256 * (g % 8) + 128 * (g / 16 % 2))
    (2048 * (g % 8) + 256 * (t % 8) + 128 * (g / 16 % 2))

/-- The offsets of a block of trip `k` that starts at column `n`. -/
def tOff (k : Fin k0_t1_loop.trips) (n : ℕ) : Fin 2 → ℕ :=
  ![(Scalar.indexCast (Scalar.muli (Scf.iv 0#32 1#32 k) 8#32)).toNat, n]

theorem tOff_row : ∀ k : Fin k0_t1_loop.trips,
    (Scalar.indexCast (Scalar.muli (Scf.iv 0#32 1#32 k) 8#32)).toNat = 8 * k.val := by decide +kernel

theorem tOff_eq (k : Fin k0_t1_loop.trips) (n : ℕ) : tOff k n = ![8 * k.val, n] := by
  unfold tOff; rw [tOff_row]

theorem col_le (g t : ℕ) : col g t + 128 ≤ 16384 := by
  unfold col; cases Nat.beq (g / 8 % 2) 0 <;> simp only [cond_true, cond_false] <;> omega

theorem k_lt (k : Fin k0_t1_loop.trips) : k.val < 4 := Nat.lt_of_lt_of_le k.isLt k0_t1_abs.2.1

theorem tOff_inb (k : Fin k0_t1_loop.trips) (n : ℕ) (hn : n + 128 ≤ 16384) :
    ∀ a, tOff k n a + S8x128.size a ≤ S32x16384.size a := by
  rw [tOff_eq]
  have := k_lt k
  intro a
  match a with
  | ⟨0, _⟩ => show 8 * k.val + 8 ≤ 32; omega
  | ⟨1, _⟩ => exact hn

/-- The block of trip `k` at block `t` of group `g`. -/
def tRect (k : Fin k0_t1_loop.trips) (g t : ℕ) : Rect S32x16384 :=
  Rect.unit (tOff k (col g t)) S8x128.size (tOff_inb k (col g t) (col_le g t))

/-- Block `t` of group `g` as loaded: from the contents the trip finds in the first pass of a half, from the stores
    before in the second. -/
def tLoad (arg7 : Memref sig .tc .vmem S32x16384 .f32) (k : Fin k0_t1_loop.trips)
    (f : BufTy.Contents (Elt F) arg7.view.ty) (L : List (View.Piece (Elt F) S32x16384 .f32)) (g t : ℕ) : FVec F S8x128 .f32 :=
  cond (Nat.beq (g / 8 % 2) 0) (View.readAt (Elt F) arg7.view (tRect k g t).toLoadRect f)
    (arg7.view.readCov L (tRect k g t).toLoadRect)

/-- The piece group `g` stores at block `t`, the eight loaded blocks being `v`. -/
def tPiece (k : Fin k0_t1_loop.trips) (g : ℕ) (v : ℕ → FVec F S8x128 .f32) (t : ℕ) : View.Piece (Elt F) S32x16384 .f32 :=
  ⟨tRect k g t, shapeCast S8x128 (bfF (bfF (bfF v 4) 2) 1 t) shapeCasts_S8x128_S8x128⟩

/-- The pieces the groups before `n` store, the last store first. -/
def tList (arg7 : Memref sig .tc .vmem S32x16384 .f32) (k : Fin k0_t1_loop.trips)
    (f : BufTy.Contents (Elt F) arg7.view.ty) : ℕ → List (View.Piece (Elt F) S32x16384 .f32)
  | 0 => []
  | g + 1 =>
    let v := tLoad arg7 k f (tList arg7 k f g) g
    tPiece k g v 7 :: tPiece k g v 6 :: tPiece k g v 5 :: tPiece k g v 4 :: tPiece k g v 3 :: tPiece k g v 2
      :: tPiece k g v 1 :: tPiece k g v 0 :: tList arg7 k f g

theorem trip_eq (𝒱 : Variants) (c : Dev nD) (bd : Option 𝒱.V) (i : grid0.Coords) (arg1 : Memref sig .tc .vmem S32x16384 .bf16) (harg1 : arg1.IsWhole) (arg2 : Memref sig .tc .vmem S1x16384 .f32) (harg2 : arg2.IsWhole) (arg3 : Memref sig .tc .vmem S256x256 .bf16) (harg3 : arg3.IsWhole) (arg4 : Memref sig .tc .vmem S32x16384 .i8) (harg4 : arg4.IsWhole) (arg5 : Memref sig .tc .vmem S32x16384 .fp8e4m3) (harg5 : arg5.IsWhole) (arg6 : Memref sig .tc .vmem S32x1 .f32) (harg6 : arg6.IsWhole) (arg7 : Memref sig .tc .vmem S32x16384 .f32) (harg7 : arg7.IsWhole) (arg8 : Memref sig .tc .vmem S8x128 .f32) (harg8 : arg8.IsWhole) (k : Fin k0_t1_loop.trips) (f : BufTy.Contents (Elt F) arg7.view.ty) :
    (trip_k0_t1 (F := F) 𝒱 c bd i arg1 harg1 arg2 harg2 arg3 harg3 arg4 harg4 arg5 harg5 arg6 harg6 arg7 harg7 arg8 harg8 k).1 f
      = tList arg7 k f 32 := by sl_kernel_rfl

end Cert.KernelIdeal.Val
-- ==== Proof.Math.lean ====
/- The arithmetic of the claim over the extended reals: butterfly stages, the three-part product of a group of 256 columns
   against the eight lowest stages, equal codes from related values, and the order of the sums. -/
module

public import Idealize.ShloMosaic.PureOps.Ideal.Laws

@[expose] public section

set_option maxRecDepth 16384

noncomputable section

namespace Cert.Proof

open Idealize.ShloMosaic

/-- One butterfly stage over bit `b` of the position. -/
def stg (b : ℕ) (h : ℕ → EReal) : ℕ → EReal := fun p =>
  if p / 2 ^ b % 2 = 0 then h p + h (p + 2 ^ b) else h (p - 2 ^ b) - h p

/-- The same over the reals. -/
def stgR (b : ℕ) (h : ℕ → ℝ) : ℕ → ℝ := fun p =>
  if p / 2 ^ b % 2 = 0 then h p + h (p + 2 ^ b) else h (p - 2 ^ b) - h p

/-- One stage of the kernel's radix-8 butterfly, distance `m`. -/
def bfE (v : ℕ → EReal) (m : ℕ) : ℕ → EReal := fun i =>
  if i / m % 2 = 0 then v i + v (i + m) else v (i - m) - v i

theorem bfE_eq (X : ℕ → EReal) (s k w : ℕ) (hw : w < 2 ^ s) :
    bfE (fun t => X (2 ^ s * t + w)) (2 ^ k) = fun i => stg (s + k) X (2 ^ s * i + w) := by
  funext i
  have hd : (2 ^ s * i + w) / 2 ^ (s + k) = i / 2 ^ k := by
    rw [pow_add, ← Nat.div_div_eq_div_mul, Nat.mul_add_div (by positivity), Nat.div_eq_of_lt hw, add_zero]
  unfold bfE stg
  rw [hd]
  by_cases hb : i / 2 ^ k % 2 = 0
  · rw [if_pos hb, if_pos hb]
    show X _ + X _ = _
    rw [show 2 ^ s * (i + 2 ^ k) + w = 2 ^ s * i + w + 2 ^ (s + k) by rw [pow_add]; ring]
  · rw [if_neg hb, if_neg hb]
    show X _ - X _ = _
    have hi : 2 ^ k ≤ i := by
      by_contra h; rw [Nat.div_eq_of_lt (by omega)] at hb; simp at hb
    rw [show 2 ^ s * (i - 2 ^ k) + w = 2 ^ s * i + w - 2 ^ (s + k) by
      rw [pow_add, Nat.mul_sub]
      have : 2 ^ s * 2 ^ k ≤ 2 ^ s * i := Nat.mul_le_mul_left _ hi
      omega]

/-- The three stages of the radix-8 butterfly. -/
def bf8E (v : ℕ → EReal) : ℕ → EReal := bfE (bfE (bfE v 4) 2) 1

theorem bf8E_eq (X : ℕ → EReal) (s w : ℕ) (hw : w < 2 ^ s) :
    bf8E (fun t => X (2 ^ s * t + w)) = fun i => stg s (stg (s + 1) (stg (s + 2) X)) (2 ^ s * i + w) := by
  unfold bf8E
  have h2 := bfE_eq X s 2 w hw
  have h1 := bfE_eq (stg (s + 2) X) s 1 w hw
  have h0 := bfE_eq (stg (s + 1) (stg (s + 2) X)) s 0 w hw
  norm_num at h2 h1 h0
  rw [h2, h1, h0]

theorem bfE_shift (Y : ℕ → EReal) (i m : ℕ) (hm : 2 * m ∣ 8) (hm0 : 0 < m) :
    bfE (fun t => Y (8 * i + t)) m = fun t => bfE Y m (8 * i + t) := by
  funext t
  obtain ⟨c, hc⟩ := hm
  have hd : (8 * i + t) / m % 2 = t / m % 2 := by
    have : 8 * i + t = m * (2 * (c * i)) + t := by rw [hc]; ring
    rw [this, Nat.mul_add_div hm0]; omega
  unfold bfE
  rw [hd]
  by_cases hb : t / m % 2 = 0
  · rw [if_pos hb, if_pos hb, add_assoc]
  · rw [if_neg hb, if_neg hb]
    have hi : m ≤ t := by
      by_contra h; rw [Nat.div_eq_of_lt (by omega)] at hb; simp at hb
    rw [Nat.add_sub_assoc hi]

theorem bf8E_shift (Y : ℕ → EReal) (i : ℕ) :
    bf8E (fun t => Y (8 * i + t)) = fun t => bf8E Y (8 * i + t) := by
  unfold bf8E
  rw [bfE_shift Y i 4 (by norm_num) (by norm_num), bfE_shift _ i 2 (by norm_num) (by norm_num),
    bfE_shift _ i 1 (by norm_num) (by norm_num)]

/-- An infinity. -/
def inf (x : EReal) : Prop := x = ⊤ ∨ x = ⊥

theorem inf_add_l {a : EReal} (h : inf a) (b : EReal) : inf (a + b) := by
  rcases h with rfl | rfl
  · induction b using EReal.rec <;> simp [inf]
  · simp [inf]
theorem inf_add_r {a : EReal} (h : inf a) (b : EReal) : inf (b + a) := by
  rw [add_comm]; exact inf_add_l h b
theorem inf_neg {a : EReal} (h : inf a) : inf (-a) := by
  rcases h with rfl | rfl <;> simp [inf]
theorem inf_sub_l {a : EReal} (h : inf a) (b : EReal) : inf (a - b) := by
  rw [sub_eq_add_neg]; exact inf_add_l h _
theorem inf_sub_r {a : EReal} (h : inf a) (b : EReal) : inf (b - a) := by
  rw [sub_eq_add_neg]; exact inf_add_r (inf_neg h) _
theorem inf_mul {a : EReal} (h : inf a) {c : ℝ} (hc : c ≠ 0) : inf (a * (c : EReal)) := by
  rcases lt_or_gt_of_ne hc with h0 | h0 <;> rcases h with rfl | rfl
  · simp [inf, EReal.top_mul_coe_of_neg h0]
  · simp [inf, EReal.bot_mul_coe_of_neg h0]
  · simp [inf, EReal.top_mul_coe_of_pos h0]
  · simp [inf, EReal.bot_mul_coe_of_pos h0]
theorem not_inf {a : EReal} (h : ¬ inf a) : ∃ r : ℝ, a = (r : EReal) := by
  induction a using EReal.rec with
  | bot => exact absurd (Or.inr rfl) h
  | coe r => exact ⟨r, rfl⟩
  | top => exact absurd (Or.inl rfl) h
theorem inf_sum {ι : Type*} [Fintype ι] (f : ι → EReal) (i : ι) (h : inf (f i)) : inf (∑ j, f j) := by
  classical
  rw [← Finset.add_sum_erase _ _ (Finset.mem_univ i)]
  exact inf_add_l h _

/-- Equal, or both infinite. -/
def Rel (a b : EReal) : Prop := a = b ∨ (inf a ∧ inf b)

theorem Rel.mul {a b : EReal} (h : Rel a b) {c : ℝ} (hc : c ≠ 0) : Rel (a * (c : EReal)) (b * (c : EReal)) := by
  rcases h with rfl | ⟨ha, hb⟩
  · exact .inl rfl
  · exact .inr ⟨inf_mul ha hc, inf_mul hb hc⟩
theorem Rel.abs {a b : EReal} (h : Rel a b) : max a (-a) = max b (-b) := by
  rcases h with rfl | ⟨ha, hb⟩
  · rfl
  · rcases ha with rfl | rfl <;> rcases hb with rfl | rfl <;> simp

theorem inf_abs {a : EReal} (h : inf a) : max a (-a) = ⊤ := by
  rcases h with rfl | rfl <;> simp

/-! ### A group of 256 positions -/

/-- The stages 7, …, b applied. -/
def lowE (h : ℕ → EReal) : ℕ → EReal :=
  stg 0 (stg 1 (stg 2 (stg 3 (stg 4 (stg 5 (stg 6 (stg 7 h)))))))
def lowR (h : ℕ → ℝ) : ℕ → ℝ :=
  stgR 0 (stgR 1 (stgR 2 (stgR 3 (stgR 4 (stgR 5 (stgR 6 (stgR 7 h)))))))

/-- Bit `t` splits a number. -/
theorem split_bit (t l : ℕ) : ∃ a x w, x < 2 ∧ w < 2 ^ t ∧ l = 2 ^ t * (2 * a + x) + w := by
  refine ⟨l / 2 ^ t / 2, l / 2 ^ t % 2, l % 2 ^ t, Nat.mod_lt _ (by norm_num), Nat.mod_lt _ (by positivity), ?_⟩
  rw [Nat.div_add_mod, Nat.div_add_mod]

theorem bit_of (t a x w : ℕ) (hx : x < 2) (hw : w < 2 ^ t) : (2 ^ t * (2 * a + x) + w) / 2 ^ t % 2 = x := by
  rw [Nat.mul_add_div (by positivity), Nat.div_eq_of_lt hw]; omega

theorem partner_lt {t : ℕ} (ht : t < 8) {l : ℕ} (hl : l < 256) (hb : l / 2 ^ t % 2 = 0) : l + 2 ^ t < 256 := by
  interval_cases t <;> omega

theorem partner_le {t : ℕ} {l : ℕ} (hb : ¬ l / 2 ^ t % 2 = 0) : 2 ^ t ≤ l := by
  by_contra h; rw [Nat.div_eq_of_lt (by omega)] at hb; simp at hb

theorem group_bit {t : ℕ} (ht : t < 8) (g l : ℕ) : (256 * g + l) / 2 ^ t % 2 = l / 2 ^ t % 2 := by
  interval_cases t <;> omega

theorem stg_group {t : ℕ} (ht : t < 8) (g : ℕ) (h : ℕ → EReal) (r : ℕ → ℝ)
    (H : ∀ l < 256, h (256 * g + l) = (r l : EReal)) :
    ∀ l < 256, stg t h (256 * g + l) = (stgR t r l : EReal) := by
  intro l hl
  unfold stg stgR
  rw [group_bit ht]
  by_cases hb : l / 2 ^ t % 2 = 0
  · rw [if_pos hb, if_pos hb, add_assoc, H l hl, H _ (partner_lt ht hl hb), EReal.coe_add]
  · rw [if_neg hb, if_neg hb, Nat.add_sub_assoc (partner_le hb), H l hl, H _ (lt_of_le_of_lt (Nat.sub_le _ _) hl), EReal.coe_sub]

theorem lowE_group (g : ℕ) (h : ℕ → EReal) (r : ℕ → ℝ) (H : ∀ l < 256, h (256 * g + l) = (r l : EReal)) :
    ∀ l < 256, lowE h (256 * g + l) = (lowR r l : EReal) :=
  stg_group (by norm_num) g _ _ <| stg_group (by norm_num) g _ _ <| stg_group (by norm_num) g _ _ <|
    stg_group (by norm_num) g _ _ <| stg_group (by norm_num) g _ _ <| stg_group (by norm_num) g _ _ <|
    stg_group (by norm_num) g _ _ <| stg_group (by norm_num) g _ _ H

/-- Every position of the group that agrees with `l0` in the bits below `t` is infinite. -/
def InfFrom (t : ℕ) (g l0 : ℕ) (h : ℕ → EReal) : Prop :=
  ∀ l < 256, l % 2 ^ t = l0 % 2 ^ t → inf (h (256 * g + l))

theorem InfFrom.step {t : ℕ} (ht : t < 8) {g l0 : ℕ} {h : ℕ → EReal} (H : InfFrom (t + 1) g l0 h) :
    InfFrom t g l0 (stg t h) := by
  intro l hl he
  unfold stg
  rw [group_bit ht]
  have hm : ∀ n : ℕ, n % 2 ^ (t + 1) = n % 2 ^ t + 2 ^ t * (n / 2 ^ t % 2) := fun n => by
    rw [pow_succ, Nat.mod_mul]
  have ha : (l + 2 ^ t) / 2 ^ t = l / 2 ^ t + 1 := by rw [Nat.add_div_right _ (by positivity)]
  have hbb : (l + 2 ^ t) % 2 ^ t = l % 2 ^ t := by simp
  rcases Nat.mod_two_eq_zero_or_one (l0 / 2 ^ t) with h0 | h0
  all_goals by_cases hb : l / 2 ^ t % 2 = 0
  · rw [if_pos hb]
    exact inf_add_l (H l hl (by rw [hm, hm, he, hb, h0])) _
  · rw [if_neg hb, Nat.add_sub_assoc (partner_le hb)]
    refine inf_sub_l (H _ (lt_of_le_of_lt (Nat.sub_le _ _) hl) ?_) _
    have hc : l = (l - 2 ^ t) + 2 ^ t := (Nat.sub_add_cancel (partner_le hb)).symm
    generalize l - 2 ^ t = n at hc ⊢
    subst hc
    rw [Nat.add_div_right _ (by positivity)] at hb
    rw [Nat.add_mod_right] at he
    rw [hm, hm, he, h0, show n / 2 ^ t % 2 = 0 by omega]
  · rw [if_pos hb, add_assoc]
    refine inf_add_r (H _ (partner_lt ht hl hb) ?_) _
    rw [hm, hm l0, hbb, he, ha, h0, show (l / 2 ^ t + 1) % 2 = 1 by omega]
  · rw [if_neg hb]
    exact inf_sub_r (H l hl (by rw [hm, hm, he, h0, show l / 2 ^ t % 2 = 1 by omega])) _

theorem lowE_inf (g l0 : ℕ) (hl0 : l0 < 256) (h : ℕ → EReal) (H : inf (h (256 * g + l0))) :
    ∀ l < 256, inf (lowE h (256 * g + l)) := by
  have h8 : InfFrom 8 g l0 h := fun l hl he => by
    have : l = l0 := by norm_num at he; omega
    rw [this]; exact H
  have := h8.step (by norm_num) |>.step (by norm_num) |>.step (by norm_num) |>.step (by norm_num)
    |>.step (by norm_num) |>.step (by norm_num) |>.step (by norm_num) |>.step (by norm_num)
  intro l hl
  exact this l hl (by simp [Nat.mod_one])

/-- The sign of two positions: minus one for each bit of the first `n` set in both. -/
def sgn (n a u : ℕ) : ℝ := ∏ t ∈ Finset.range n, if a / 2 ^ t % 2 = 1 ∧ u / 2 ^ t % 2 = 1 then -1 else 1

theorem sgn_succ (n a x u e : ℕ) (hx : x < 2) (he : e < 2) :
    sgn (n + 1) (2 * a + x) (2 * u + e) = sgn n a u * (if x = 1 ∧ e = 1 then -1 else 1) := by
  unfold sgn
  rw [Finset.prod_range_succ']
  have h1 : ∀ t c y : ℕ, y < 2 → (2 * c + y) / 2 ^ (t + 1) = c / 2 ^ t := fun t c y hy => by
    rw [pow_succ', ← Nat.div_div_eq_div_mul]; congr 1; omega
  congr 1
  · refine Finset.prod_congr rfl fun t _ => ?_
    rw [h1 t a x hx, h1 t u e he]
  · simp only [pow_zero, Nat.div_one]
    rw [show (2 * a + x) % 2 = x by omega, show (2 * u + e) % 2 = e by omega]

theorem sum_range_two_mul (n : ℕ) (f : ℕ → ℝ) :
    ∑ u ∈ Finset.range (2 * n), f u = ∑ u ∈ Finset.range n, (f (2 * u) + f (2 * u + 1)) := by
  induction n with
  | zero => simp
  | succ n ih => rw [show 2 * (n + 1) = 2 * n + 1 + 1 by ring, Finset.sum_range_succ, Finset.sum_range_succ, ih,
      Finset.sum_range_succ]; ring

/-- What the stages 7, …, b leave, as a sum. -/
def partialR (b n : ℕ) (r : ℕ → ℝ) (l : ℕ) : ℝ :=
  ∑ u ∈ Finset.range (2 ^ n), sgn n (l / 2 ^ b) u * r (u * 2 ^ b + l % 2 ^ b)

theorem partialR_step (b n : ℕ) (r : ℕ → ℝ) : partialR b (n + 1) r = stgR b (partialR (b + 1) n r) := by
  funext l
  obtain ⟨a, x, w, hx, hw, rfl⟩ := split_bit b l
  have hdiv : ∀ y, y < 2 → (2 ^ b * (2 * a + y) + w) / 2 ^ (b + 1) = a := fun y hy => by
    rw [pow_succ, ← Nat.div_div_eq_div_mul, Nat.mul_add_div (by positivity), Nat.div_eq_of_lt hw]; omega
  have hmod : ∀ y, y < 2 → (2 ^ b * (2 * a + y) + w) % 2 ^ (b + 1) = 2 ^ b * y + w := fun y hy => by
    have : 2 ^ b * (2 * a + y) + w = 2 ^ (b + 1) * a + (2 ^ b * y + w) := by rw [pow_succ]; ring
    rw [this, Nat.mul_add_mod, Nat.mod_eq_of_lt]
    rw [pow_succ]
    have : y = 0 ∨ y = 1 := by omega
    rcases this with rfl | rfl <;> omega
  have hd0 : (2 ^ b * (2 * a + x) + w) / 2 ^ b = 2 * a + x := by
    rw [Nat.mul_add_div (by positivity), Nat.div_eq_of_lt hw]; omega
  have hm0 : (2 ^ b * (2 * a + x) + w) % 2 ^ b = w := by
    rw [Nat.mul_add_mod, Nat.mod_eq_of_lt hw]
  have key : ∀ y, y < 2 → partialR (b + 1) n r (2 ^ b * (2 * a + y) + w)
      = ∑ u ∈ Finset.range (2 ^ n), sgn n a u * r ((2 * u + y) * 2 ^ b + w) := fun y hy => by
    unfold partialR
    rw [hdiv y hy, hmod y hy]
    refine Finset.sum_congr rfl fun u _ => ?_
    congr 2; rw [pow_succ]; ring
  have lhs : partialR b (n + 1) r (2 ^ b * (2 * a + x) + w)
      = ∑ u ∈ Finset.range (2 ^ n), (sgn n a u * r ((2 * u + 0) * 2 ^ b + w)
        + sgn n a u * (if x = 1 then -1 else 1) * r ((2 * u + 1) * 2 ^ b + w)) := by
    unfold partialR
    rw [hd0, hm0, pow_succ', sum_range_two_mul]
    refine Finset.sum_congr rfl fun u _ => ?_
    have e0 := sgn_succ n a x u 0 hx (by norm_num)
    have e1 := sgn_succ n a x u 1 hx (by norm_num)
    simp only [add_zero, and_true] at e0 e1
    rw [e0, e1]; simp
  rw [lhs]
  unfold stgR
  rw [bit_of b a x w hx hw]
  have hx2 : x = 0 ∨ x = 1 := by omega
  rcases hx2 with rfl | rfl
  · rw [if_pos rfl, key 0 (by norm_num),
      show 2 ^ b * (2 * a + 0) + w + 2 ^ b = 2 ^ b * (2 * a + 1) + w by ring, key 1 (by norm_num),
      ← Finset.sum_add_distrib]
    refine Finset.sum_congr rfl fun u _ => ?_
    simp
  · rw [if_neg one_ne_zero, key 1 (by norm_num),
      show 2 ^ b * (2 * a + 1) + w - 2 ^ b = 2 ^ b * (2 * a + 0) + w by
        rw [Nat.mul_add, mul_one, add_zero]; omega, key 0 (by norm_num), ← Finset.sum_sub_distrib]
    refine Finset.sum_congr rfl fun u _ => ?_
    simp; ring

theorem lowR_eq (r : ℕ → ℝ) (l : ℕ) (hl : l < 256) :
    lowR r l = ∑ u ∈ Finset.range 256, sgn 8 l u * r u := by
  have h8 : ∀ l, l < 256 → partialR 8 0 r l = r l := fun l hl => by
    simp [partialR, sgn, Nat.mod_eq_of_lt hl]
  have e : partialR 0 8 r = stgR 0 (stgR 1 (stgR 2 (stgR 3 (stgR 4 (stgR 5 (stgR 6 (stgR 7 (partialR 8 0 r)))))))) := by
    simp only [partialR_step]
  have hfin : partialR 0 8 r l = ∑ u ∈ Finset.range 256, sgn 8 l u * r u := by
    simp [partialR, Nat.mod_one]
  have step : ∀ (t : ℕ), t < 8 → ∀ p q : ℕ → ℝ, (∀ l < 256, p l = q l) → ∀ l < 256, stgR t p l = stgR t q l :=
    fun t ht p q H l hl => by
      unfold stgR
      by_cases hb : l / 2 ^ t % 2 = 0
      · rw [if_pos hb, if_pos hb, H l hl, H _ (partner_lt ht hl hb)]
      · rw [if_neg hb, if_neg hb, H l hl, H _ (lt_of_le_of_lt (Nat.sub_le _ _) hl)]
  rw [← hfin, e]
  unfold lowR
  exact (step 0 (by norm_num) _ _ <| step 1 (by norm_num) _ _ <| step 2 (by norm_num) _ _ <|
    step 3 (by norm_num) _ _ <| step 4 (by norm_num) _ _ <| step 5 (by norm_num) _ _ <|
    step 6 (by norm_num) _ _ <| step 7 (by norm_num) _ _ fun l hl => (h8 l hl).symm) l hl

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sgn_ne (n a u : ℕ) : sgn n a u ≠ 0 := by
  unfold sgn
  rw [Finset.prod_ne_zero_iff]
  intro t _; split_ifs <;> norm_num

/-- The kernel's three products with the sign matrix of a group, against the eight butterfly stages. -/
theorem group_rel (g : ℕ) (h : ℕ → EReal) (l : ℕ) (hl : l < 256) (had : Fin 256 → EReal)
    (hhad : ∀ u : Fin 256, had u = ((sgn 8 l u : ℝ) : EReal)) :
    Rel (((0 + ∑ u : Fin 256, ((h (256 * g + u) - h (256 * g + u)) - (h (256 * g + u) - h (256 * g + u))) * had u)
        + (0 + ∑ u : Fin 256, (h (256 * g + u) - h (256 * g + u)) * had u))
        + (0 + ∑ u : Fin 256, h (256 * g + u) * had u)) (lowE h (256 * g + l)) := by
  by_cases H : ∃ u : Fin 256, inf (h (256 * g + u))
  · obtain ⟨u, hu⟩ := H
    have hi := inf_sum (fun u : Fin 256 =>
      ((h (256 * g + u) - h (256 * g + u)) - (h (256 * g + u) - h (256 * g + u))) * had u) u (by
        show inf (_ * had u)
        rw [hhad]; exact inf_mul (inf_sub_l (inf_sub_l hu _) _) (sgn_ne _ _ _))
    exact .inr ⟨inf_add_l (inf_add_l (inf_add_r hi _) _) _, lowE_inf g u u.2 h hu l hl⟩
  · push Not at H
    have H' : ∀ u : Fin 256, ∃ r : ℝ, h (256 * g + u) = (r : EReal) := fun u => not_inf (H u)
    choose r hr using H'
    let r' : ℕ → ℝ := fun l => if hl : l < 256 then r ⟨l, hl⟩ else 0
    have hr' : ∀ l < 256, h (256 * g + l) = (r' l : EReal) := fun l hl => by
      simp only [r', dif_pos hl]; exact hr ⟨l, hl⟩
    left
    rw [lowE_group g h r' hr' l hl, lowR_eq r' l hl]
    simp only [hr, hhad, ← EReal.coe_sub, sub_self, ← EReal.coe_mul, zero_mul, EReal.coe_zero, Finset.sum_const_zero,
      add_zero, zero_add, coe_sum, sub_zero]
    rw [EReal.coe_eq_coe_iff, Finset.sum_range (fun u => sgn 8 l u * r' u)]
    refine Finset.sum_congr rfl fun u _ => ?_
    rw [show r' u = r u from dif_pos u.2, mul_comm]

/-- The scale of a row whose greatest absolute value is `a`. -/
def scaleOf (a : EReal) : EReal := if a = 0 then 1 else Ideal.div a ((7 : ℝ) : EReal)

/-- A quotient rounded to the nearest integer and clipped to four bits. -/
def clipR (z : EReal) : EReal :=
  min ((7 : ℝ) : EReal) (max ((-7 : ℝ) : EReal) (Ideal.liftRound Ideal.roundHalfEven z))

theorem clipR_int (z : EReal) : ∃ n : ℤ, -7 ≤ n ∧ n ≤ 7 ∧ clipR z = ((n : ℝ) : EReal) := by
  unfold clipR
  induction z using EReal.rec with
  | bot => exact ⟨-7, by norm_num, by norm_num, by
      rw [Ideal.liftRound_bot, max_eq_left bot_le, min_eq_right (by exact_mod_cast (by norm_num : (-7 : ℝ) ≤ 7))]; norm_num⟩
  | top => exact ⟨7, by norm_num, by norm_num, by
      rw [Ideal.liftRound_top, max_eq_right le_top, min_eq_left le_top]; norm_num⟩
  | coe r =>
    refine ⟨min 7 (max (-7) (Ideal.roundHalfEven r)), by omega, by omega, ?_⟩
    rw [Ideal.liftRound_coe]
    rw [Int.cast_min, Int.cast_max, EReal.coe_strictMono.monotone.map_min, EReal.coe_strictMono.monotone.map_max]
    norm_num

theorem fptosi_clipR (z : EReal) : (((Ideal.fptosi 8 (clipR z)).toInt : ℝ) : EReal) = clipR z := by
  obtain ⟨n, h0, h1, hn⟩ := clipR_int z
  rw [hn]
  unfold Ideal.fptosi
  rw [Ideal.toIntClamped_coe, Int.floor_intCast, Int.ceil_intCast, ite_self]
  rw [max_eq_right (by norm_num; omega), min_eq_right (by norm_num; omega)]
  congr 2
  rw [BitVec.toInt_ofInt]
  interval_cases n <;> rfl

theorem scaleOf_top : scaleOf ⊤ = ⊤ := by
  unfold scaleOf Ideal.div
  rw [if_neg (by simp), if_neg (by norm_num), ← EReal.coe_inv, EReal.top_mul_coe_of_pos (by norm_num)]

/-- Two values equal or both infinite have the same quotient by a scale their absolute value bounds. -/
theorem quant_eq {a v w : EReal} (h : Rel v w) (hv : max v (-v) ≤ a) :
    Ideal.div v (scaleOf a) = Ideal.div w (scaleOf a) := by
  rcases h with rfl | ⟨h1, _⟩
  · rfl
  · rw [inf_abs h1, top_le_iff] at hv
    subst hv
    rw [scaleOf_top]
    unfold Ideal.div
    rw [if_neg (by simp), if_neg (by simp), EReal.inv_top, mul_zero, mul_zero]

/-! ### Sums taken one after another -/

/-- The running sum of `p 0, …, p k`. -/
def chain (p : ℕ → EReal) : ℕ → EReal
  | 0 => p 0
  | k + 1 => chain p k + p (k + 1)

theorem chain_coe (p : ℕ → ℝ) (k : ℕ) :
    chain (fun k => (p k : EReal)) k = ((∑ i ∈ Finset.range (k + 1), p i : ℝ) : EReal) := by
  induction k with
  | zero => simp [chain]
  | succ k ih => rw [chain, ih, Finset.sum_range_succ _ (k + 1), EReal.coe_add]

theorem sum_blocks (b n : ℕ) (g : ℕ → ℝ) :
    ∑ k ∈ Finset.range (b * n), g k = ∑ i ∈ Finset.range n, ∑ u ∈ Finset.range b, g (b * i + u) := by
  induction n with
  | zero => simp
  | succ n ih => rw [Nat.mul_succ, Finset.sum_range_add, ih, Finset.sum_range_succ]

/-- The kernel's order of accumulation (chunks, then fields; weights doubled; the sum halved) against the
    reference's (fields, each over its whole depth). -/
theorem acc_eq (q : ℕ → ℝ) (t : ℕ → ℕ → ℝ) :
    chain (fun k => 0 + ∑ u : Fin 256, ((q (4096 * (k % 4) + (256 * (k / 4) + u)) : ℝ) : EReal)
        * ((2 * t (k % 4) (256 * (k / 4) + u) : ℝ) : EReal)) 63 * (((1 / 2 : ℝ)) : EReal)
      = chain (fun f => 0 + ∑ u : Fin 4096, ((q (4096 * f + u) : ℝ) : EReal) * ((t f u : ℝ) : EReal)) 3 := by
  simp only [← EReal.coe_mul, coe_sum, zero_add, chain_coe]
  congr 1
  rw [show 63 + 1 = 4 * 16 from rfl, sum_blocks 4 16]
  have e : ∀ i : ℕ, ∑ u ∈ Finset.range 4, ∑ v : Fin 256, q (4096 * ((4 * i + u) % 4) + (256 * ((4 * i + u) / 4) + ↑v))
        * (2 * t ((4 * i + u) % 4) (256 * ((4 * i + u) / 4) + ↑v))
      = ∑ f ∈ Finset.range 4, ∑ v ∈ Finset.range 256, 2 * (q (4096 * f + (256 * i + v)) * t f (256 * i + v)) := by
    intro i
    refine Finset.sum_congr rfl fun f hf => ?_
    have hf' : f < 4 := Finset.mem_range.1 hf
    rw [show (4 * i + f) % 4 = f by omega, show (4 * i + f) / 4 = i by omega,
      Finset.sum_range (fun v => 2 * (q (4096 * f + (256 * i + v)) * t f (256 * i + v)))]
    refine Finset.sum_congr rfl fun v _ => ?_
    ring
  rw [Finset.sum_congr rfl fun i _ => e i, Finset.sum_comm, Finset.sum_mul]
  refine Finset.sum_congr rfl fun f _ => ?_
  rw [← Finset.sum_range (fun u => q (4096 * f + u) * t f u), show 4096 = 256 * 16 from rfl, sum_blocks 256 16, Finset.sum_mul]
  refine Finset.sum_congr rfl fun i _ => ?_
  rw [Finset.sum_mul]
  refine Finset.sum_congr rfl fun u _ => ?_
  ring

end Cert.Proof
-- ==== Proof.Spec.lean ====
/- What both programs compute, row by row: the normalised row, its Hadamard transform, the scale and the codes. -/
module

public import proofs.«01_k».proof.Proof.Math

@[expose] public section

set_option maxRecDepth 16384

noncomputable section

namespace Cert.Proof

open Idealize.ShloMosaic

/-- The three uppermost butterfly stages, and the six. -/
def up3 (X : ℕ → EReal) : ℕ → EReal := stg 11 (stg 12 (stg 13 X))
def up6 (X : ℕ → EReal) : ℕ → EReal := stg 8 (stg 9 (stg 10 (up3 X)))

/-- The normalised row. -/
def nrmE (x gn : Fin 16384 → EReal) : ℕ → EReal := fun p =>
  if h : p < 16384 then
    x ⟨p, h⟩ * Ideal.rsqrt (Ideal.div (∑ u : Fin 16384, x u * x u) (Ideal.ofBits .f32 0x46800000#32)
      + Ideal.ofBits .f32 0x3727C5AC#32) * gn ⟨p, h⟩
  else 0

/-- The transformed row. -/
def hadE (x gn : Fin 16384 → EReal) (p : ℕ) : EReal := lowE (up6 (nrmE x gn)) p * Ideal.ofBits .f32 0x3C000000#32

/-- The greatest absolute value of a row. -/
def amaxE (h : ℕ → EReal) : EReal := Finset.univ.sup fun p : Fin 16384 => max (h p.val) (-(h p.val))

theorem amaxE_le {h : ℕ → EReal} {b : EReal} : amaxE h ≤ b ↔ ∀ p : Fin 16384, max (h p.val) (-(h p.val)) ≤ b := by
  unfold amaxE; rw [Finset.sup_le_iff]; exact ⟨fun H p => H p (Finset.mem_univ _), fun H p _ => H p⟩

/-- The scale of a row and its quotients rounded and clamped. -/
def sclE (h : ℕ → EReal) : EReal := scaleOf (amaxE h)
def qE (h : ℕ → EReal) (p : ℕ) : EReal := clipR (Ideal.div (h p) (sclE h))

theorem c7_eq : Ideal.ofBits .f32 0x3C000000#32 = ((1 / 128 : ℝ) : EReal) := by
  simp [Ideal.ofBits, Ideal.ieee, -EReal.coe_mul]; norm_num
theorem cst7_eq : Ideal.ofBits .f32 0x40E00000#32 = ((7 : ℝ) : EReal) := by
  simp [Ideal.ofBits, Ideal.ieee, -EReal.coe_mul]; norm_num
theorem cstm7_eq : Ideal.ofBits .f32 0xC0E00000#32 = ((-7 : ℝ) : EReal) := by
  simp [Ideal.ofBits, Ideal.ieee, -EReal.coe_mul]; norm_num
theorem cst1_eq : Ideal.ofBits .f32 0x3F800000#32 = 1 := by
  simp [Ideal.ofBits, Ideal.ieee, -EReal.coe_mul]; norm_num
theorem csthalf_eq : Ideal.ofBits .f32 0x3F000000#32 = ((1 / 2 : ℝ) : EReal) := by
  simp [Ideal.ofBits, Ideal.ieee, -EReal.coe_mul]; norm_num
theorem cstbot_eq : Ideal.ofBits .f32 0xFF800000#32 = ⊥ := by
  simp [Ideal.ofBits, Ideal.ieee, -EReal.coe_mul]
theorem cst0_eq : Ideal.ofBits .f32 0x00000000#32 = 0 := Ideal.ofBits_zero_f32

end Cert.Proof
-- ==== Proof.KLoop.lean ====
/- The row loop over the extended reals: one trip takes its eight rows through the six upper butterfly stages, and the four
   trips take every row through them. -/
module

public import proofs.«01_k».proof.Proof.KTrip
public import proofs.«01_k».proof.Proof.Spec
public import Idealize.ShloMosaic.Lib.Pipeline.CanonAppend
public import Idealize.ShloMosaic.Lib.Writes
public import Idealize.ShloMosaic.Lib.Pointwise

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Proof

theorem ix2_eta {R C : ℕ} (y : (⟨2, ![R, C]⟩ : Shape).Idx) : ix2 (y 0) (y 1) = y := by
  funext a
  match a with
  | ⟨0, _⟩ => rfl
  | ⟨1, _⟩ => rfl

/-- Row `r` of a matrix as a function of the column. -/
def rowOf {R C : ℕ} (A : (⟨2, ![R, C]⟩ : Shape).Idx → EReal) (r : Fin R) : ℕ → EReal := fun p =>
  if h : p < C then A (ix2 r ⟨p, h⟩) else 0

theorem rowOf_apply {R C : ℕ} (A : (⟨2, ![R, C]⟩ : Shape).Idx → EReal) (y : (⟨2, ![R, C]⟩ : Shape).Idx) :
    rowOf A (y 0) (y 1).val = A y := by
  have h : (y 1).val < C := (y 1).isLt
  have e : rowOf A (y 0) (y 1).val = A (ix2 (y 0) ⟨(y 1).val, h⟩) := dif_pos h
  rw [e]
  exact congrArg A (ix2_eta y)

theorem rowOf_eq {R C : ℕ} (A : (⟨2, ![R, C]⟩ : Shape).Idx → EReal) (y : (⟨2, ![R, C]⟩ : Shape).Idx) (r : Fin R) (p : ℕ)
    (hr : (y 0).val = r.val) (hp : (y 1).val = p) : A y = rowOf A r p := by
  subst hp
  rw [← rowOf_apply A y, show y 0 = r from Fin.ext hr]

theorem bf8E_congr {v w : ℕ → EReal} (h : ∀ t < 8, v t = w t) : ∀ t < 8, bf8E v t = bf8E w t := by
  have h0 := h 0 (by norm_num); have h1 := h 1 (by norm_num); have h2 := h 2 (by norm_num); have h3 := h 3 (by norm_num)
  have h4 := h 4 (by norm_num); have h5 := h 5 (by norm_num); have h6 := h 6 (by norm_num); have h7 := h 7 (by norm_num)
  intro t ht
  unfold bf8E bfE
  interval_cases t <;> simp [h0, h1, h2, h3, h4, h5, h6, h7]

theorem bfF_apply (v : ℕ → FVec Ideal S8x128 .f32) (m i : ℕ) (x : S8x128.Idx) :
    bfF v m i x = bfE (fun t => v t x) m i := by
  unfold bfF bfE
  by_cases h : i / m % 2 = 0
  · rw [if_pos h, show Nat.beq (i / m % 2) 0 = true by rw [h]; rfl]; rfl
  · rw [if_neg h, show Nat.beq (i / m % 2) 0 = false from Bool.eq_false_iff.2 fun e => h (Nat.eq_of_beq_eq_true e)]; rfl

theorem bf8_apply (v : ℕ → FVec Ideal S8x128 .f32) (t : ℕ) (x : S8x128.Idx) :
    bfF (bfF (bfF v 4) 2) 1 t x = bf8E (fun t => v t x) t := by
  unfold bf8E
  rw [bfF_apply]
  congr 1; funext i
  rw [bfF_apply]
  congr 1; funext i
  rw [bfF_apply]

variable (arg7 : Memref sig .tc .vmem S32x16384 .f32) (k : Fin k0_t1_loop.trips) (f : BufTy.Contents (Elt Ideal) arg7.view.ty)

theorem beq_pass {g : ℕ} (h : g / 8 % 2 = 0) : Nat.beq (g / 8 % 2) 0 = true := by rw [h]; rfl
theorem beq_pass' {g : ℕ} (h : ¬ g / 8 % 2 = 0) : Nat.beq (g / 8 % 2) 0 = false :=
  Bool.eq_false_iff.2 fun e => h (Nat.eq_of_beq_eq_true e)

theorem tLoad_a (L : List (View.Piece (Elt Ideal) S32x16384 .f32)) {g : ℕ} (t : ℕ) (h : g / 8 % 2 = 0) (x : S8x128.Idx) :
    tLoad arg7 k f L g t x = arg7.view.read (Elt Ideal) f ((tRect k g t).idx x) := by
  unfold tLoad; rw [beq_pass h]; rfl

theorem tLoad_b (L : List (View.Piece (Elt Ideal) S32x16384 .f32)) {g : ℕ} (t : ℕ) (h : ¬ g / 8 % 2 = 0) (x : S8x128.Idx) :
    tLoad arg7 k f L g t x = View.canon L ((tRect k g t).idx x) := by
  have e := congrFun (View.readCov_eq_canon' arg7.view L (tRect k g t).toLoadRect) x
  refine Eq.trans ?_ e
  unfold tLoad; rw [beq_pass' h]; rfl

theorem mem_tRect (g t : ℕ) (y : S32x16384.Idx) :
    y ∈ (tRect k g t).set ↔ (8 * k.val ≤ (y 0).val ∧ (y 0).val < 8 * k.val + 8)
      ∧ (col g t ≤ (y 1).val ∧ (y 1).val < col g t + 128) := by
  unfold tRect
  rw [Rect.mem_set_unit, tOff_eq]
  constructor
  · intro h; exact ⟨h 0, h 1⟩
  · rintro ⟨h0, h1⟩ a
    match a with
    | ⟨0, _⟩ => exact h0
    | ⟨1, _⟩ => exact h1

theorem tRect_idx0 (g t : ℕ) (x : S8x128.Idx) : ((tRect k g t).idx x 0).val = 8 * k.val + (x 0).val := by
  show tOff k (col g t) 0 + 1 * (x 0).val = _
  rw [tOff_eq, one_mul]; rfl

theorem tRect_idx1 (g t : ℕ) (x : S8x128.Idx) : ((tRect k g t).idx x 1).val = col g t + (x 1).val := by
  show tOff k (col g t) 1 + 1 * (x 1).val = _
  rw [tOff_eq, one_mul]; rfl

/-- The pieces of one group. -/
def tNew (g : ℕ) (L : List (View.Piece (Elt Ideal) S32x16384 .f32)) : List (View.Piece (Elt Ideal) S32x16384 .f32) :=
  let v := tLoad arg7 k f L g
  [tPiece k g v 7, tPiece k g v 6, tPiece k g v 5, tPiece k g v 4, tPiece k g v 3, tPiece k g v 2, tPiece k g v 1,
    tPiece k g v 0]

theorem mem_tNew {g : ℕ} {L : List (View.Piece (Elt Ideal) S32x16384 .f32)} {p : View.Piece (Elt Ideal) S32x16384 .f32} :
    p ∈ tNew arg7 k f g L ↔ ∃ t < 8, p = tPiece k g (tLoad arg7 k f L g) t := by
  unfold tNew
  simp only [List.mem_cons, List.not_mem_nil, or_false]
  constructor
  · rintro (h | h | h | h | h | h | h | h)
    exacts [⟨7, by norm_num, h⟩, ⟨6, by norm_num, h⟩, ⟨5, by norm_num, h⟩, ⟨4, by norm_num, h⟩, ⟨3, by norm_num, h⟩,
      ⟨2, by norm_num, h⟩, ⟨1, by norm_num, h⟩, ⟨0, by norm_num, h⟩]
  · rintro ⟨t, ht, h⟩
    interval_cases t <;> simp [h]

theorem tList_succ (g : ℕ) : tList arg7 k f (g + 1) = tNew arg7 k f g (tList arg7 k f g) ++ tList arg7 k f g := rfl

/-- The row of `f` an index of the trip reads. -/
abbrev rf (y : S32x16384.Idx) : ℕ → EReal := rowOf (R := 32) (C := 16384) (arg7.view.read (Elt Ideal) f) (y 0)

/-- What the groups before `g` leave at an index they have written. -/
def gVal (g : ℕ) (y : S32x16384.Idx) : EReal :=
  if 16 * ((y 1).val / 128 % 2) + 8 + (y 1).val / 2048 < g then up6 (rf arg7 f y) (y 1).val else up3 (rf arg7 f y) (y 1).val

theorem dig (a b c l : ℕ) (hb : b < 8) (hc : c < 2) (hl : l < 128) :
    (2048 * a + 256 * b + 128 * c + l) / 128 % 2 = c ∧ (2048 * a + 256 * b + 128 * c + l) / 256 % 8 = b
      ∧ (2048 * a + 256 * b + 128 * c + l) / 2048 = a := by
  refine ⟨?_, ?_, ?_⟩ <;> omega

theorem col_a (c s t : ℕ) (hc : c < 2) (hs : s < 8) (ht : t < 8) : col (16 * c + s) t = 2048 * t + 256 * s + 128 * c := by
  unfold col
  rw [beq_pass (by omega), cond_true, show (16 * c + s) % 8 = s by omega, show (16 * c + s) / 16 % 2 = c by omega,
    Nat.mod_eq_of_lt ht]

theorem col_b (c s t : ℕ) (hc : c < 2) (hs : s < 8) (ht : t < 8) :
    col (16 * c + (8 + s)) t = 2048 * s + 256 * t + 128 * c := by
  unfold col
  rw [beq_pass' (by omega), cond_false, show (16 * c + (8 + s)) % 8 = s by omega,
    show (16 * c + (8 + s)) / 16 % 2 = c by omega, Nat.mod_eq_of_lt ht]

theorem tPiece_apply (g : ℕ) (v : ℕ → FVec Ideal S8x128 .f32) (t : ℕ) (x : S8x128.Idx) :
    (tPiece k g v t).2 x = bf8E (fun t => v t x) t :=
  (congrFun (shapeCast_self _ _) x).trans (bf8_apply v t x)

/-- What a trip must leave behind the groups before `g`. -/
def TInv (g : ℕ) : Prop :=
    (∀ pc ∈ tList arg7 k f g, ∀ y, y ∈ pc.1.set → 8 * k.val ≤ (y 0).val ∧ (y 0).val < 8 * k.val + 8)
    ∧ ∀ y : S32x16384.Idx, 8 * k.val ≤ (y 0).val → (y 0).val < 8 * k.val + 8 →
      16 * ((y 1).val / 128 % 2) + (y 1).val / 256 % 8 < g →
      (∃ pc ∈ tList arg7 k f g, y ∈ pc.1.set) ∧ View.canon (tList arg7 k f g) y = gVal arg7 f g y

/-- A group's step, from what its pieces hold and which columns they take. -/
theorem TInv.step {g : ℕ} (h : TInv arg7 k f g) (G : S32x16384.Idx → EReal)
    (hG : ∀ t < 8, ∀ x : S8x128.Idx, bf8E (fun t => tLoad arg7 k f (tList arg7 k f g) g t x) t = G ((tRect k g t).idx x))
    (hin : ∀ y t, t < 8 → y ∈ (tRect k g t).set → G y = gVal arg7 f (g + 1) y)
    (hout : ∀ y : S32x16384.Idx, 8 * k.val ≤ (y 0).val → (y 0).val < 8 * k.val + 8 →
      16 * ((y 1).val / 128 % 2) + (y 1).val / 256 % 8 < g + 1 → (¬ ∃ t < 8, y ∈ (tRect k g t).set) →
      16 * ((y 1).val / 128 % 2) + (y 1).val / 256 % 8 < g ∧ gVal arg7 f g y = gVal arg7 f (g + 1) y) :
    TInv arg7 k f (g + 1) := by
  obtain ⟨iA, iB⟩ := h
  constructor
  · intro pc hpc y hy
    rw [tList_succ, List.mem_append] at hpc
    rcases hpc with hpc | hpc
    · obtain ⟨t, ht, rfl⟩ := (mem_tNew arg7 k f).1 hpc
      exact ((mem_tRect k g t y).1 hy).1
    · exact iA pc hpc y hy
  · intro y h0 h1 h2
    rw [tList_succ]
    by_cases hm : ∃ t < 8, y ∈ (tRect k g t).set
    · have hc : ∃ pc ∈ tNew arg7 k f g (tList arg7 k f g), y ∈ pc.1.set := by
        obtain ⟨t, ht, hy⟩ := hm
        exact ⟨_, (mem_tNew arg7 k f).2 ⟨t, ht, rfl⟩, hy⟩
      refine ⟨?_, ?_⟩
      · obtain ⟨pc, hpc, hy⟩ := hc
        exact ⟨pc, List.mem_append_left _ hpc, hy⟩
      rw [View.canon_append_of_pieces G (tList arg7 k f g) _ ?_ y hc]
      · obtain ⟨t, ht, hy⟩ := hm
        exact hin y t ht hy
      · intro pc hpc x
        obtain ⟨t, ht, rfl⟩ := (mem_tNew arg7 k f).1 hpc
        exact (tPiece_apply k g _ t x).trans (hG t ht x)
    · have hm' : ∀ pc ∈ tNew arg7 k f g (tList arg7 k f g), y ∉ pc.1.set := by
        intro pc hpc hy
        obtain ⟨t, ht, rfl⟩ := (mem_tNew arg7 k f).1 hpc
        exact hm ⟨t, ht, hy⟩
      obtain ⟨h3, h4⟩ := hout y h0 h1 h2 hm
      obtain ⟨⟨pc, hpc, hy⟩, hv⟩ := iB y h0 h1 h3
      refine ⟨⟨pc, List.mem_append_right _ hpc, hy⟩, ?_⟩
      rw [← h4, ← hv]
      generalize tNew arg7 k f g (tList arg7 k f g) = P at hm'
      induction P with
      | nil => rfl
      | cons p P ih =>
        rw [List.cons_append, View.canon_cons_of_not_mem _ _ (hm' p List.mem_cons_self)]
        exact ih fun q hq => hm' q (List.mem_cons_of_mem _ hq)

theorem TInv.stepA {c s : ℕ} (hc : c < 2) (hs : s < 8) (h : TInv arg7 k f (16 * c + s)) : TInv arg7 k f (16 * c + s + 1) := by
  refine h.step arg7 k f (fun y => up3 (rf arg7 f y) (y 1).val) ?_ ?_ ?_
  · intro t ht x
    have hx : (x 1).val < 128 := (x 1).isLt
    have e1 := tRect_idx1 k (16 * c + s) t x
    show _ = up3 (rf arg7 f ((tRect k (16 * c + s) t).idx x)) ((tRect k (16 * c + s) t).idx x 1).val
    rw [e1, col_a c s t hc hs ht]
    have hr : ∀ t', rf arg7 f ((tRect k (16 * c + s) t').idx x) = rf arg7 f ((tRect k (16 * c + s) t).idx x) := by
      intro t'
      refine congrArg (rowOf (R := 32) (C := 16384) (arg7.view.read (Elt Ideal) f)) ?_
      exact Fin.ext ((tRect_idx0 k _ t' x).trans (tRect_idx0 k _ t x).symm)
    have key := bf8E_eq (rf arg7 f ((tRect k (16 * c + s) t).idx x)) 11 (256 * s + 128 * c + (x 1).val)
      (by norm_num; omega)
    have key' := congrFun key t
    rw [show (2 : ℕ) ^ 11 = 2048 by norm_num] at key'
    unfold up3
    rw [show 2048 * t + 256 * s + 128 * c + (x 1).val = 2048 * t + (256 * s + 128 * c + (x 1).val) by omega, ← key']
    refine bf8E_congr (fun t' ht' => ?_) t ht
    show tLoad arg7 k f _ (16 * c + s) t' x = _
    rw [tLoad_a arg7 k f _ t' (by omega), ← hr t']
    refine rowOf_eq (R := 32) (C := 16384) _ _ _ _ rfl ?_
    have e2 := tRect_idx1 k (16 * c + s) t' x
    rw [col_a c s t' hc hs ht'] at e2
    rw [e2]; omega
  · intro y t ht hy
    obtain ⟨-, h0, h1⟩ := (mem_tRect k _ t y).1 hy
    rw [col_a c s t hc hs ht] at h0 h1
    obtain ⟨l, hl⟩ : ∃ l, (y 1).val = 2048 * t + 256 * s + 128 * c + l := ⟨_, (Nat.add_sub_of_le h0).symm⟩
    obtain ⟨d1, d2, d3⟩ := dig t s c l hs hc (by omega)
    unfold gVal
    rw [hl, d1, d3, if_neg (by omega)]
  · intro y h0 h1 h2 hm
    have hp : (y 1).val < 16384 := (y 1).isLt
    have hne : ¬ ((y 1).val / 128 % 2 = c ∧ (y 1).val / 256 % 8 = s) := by
      rintro ⟨q1, q2⟩
      refine hm ⟨(y 1).val / 2048, by omega, (mem_tRect k _ _ y).2 ⟨⟨h0, h1⟩, ?_⟩⟩
      rw [col_a c s _ hc hs (by omega)]
      omega
    have hc' : (y 1).val / 128 % 2 < 2 := by omega
    have hi' : (y 1).val / 2048 < 8 := by omega
    have hj' : (y 1).val / 256 % 8 < 8 := by omega
    unfold gVal
    generalize (y 1).val / 128 % 2 = c' at *
    generalize (y 1).val / 2048 = i' at *
    generalize (y 1).val / 256 % 8 = j' at *
    refine ⟨by omega, ?_⟩
    by_cases q : 16 * c' + 8 + i' < 16 * c + s
    · rw [if_pos q, if_pos (by omega)]
    · rw [if_neg q, if_neg (by omega)]

theorem TInv.stepB {c s : ℕ} (hc : c < 2) (hs : s < 8) (h : TInv arg7 k f (16 * c + (8 + s))) :
    TInv arg7 k f (16 * c + (8 + s) + 1) := by
  refine h.step arg7 k f (fun y => up6 (rf arg7 f y) (y 1).val) ?_ ?_ ?_
  · intro t ht x
    have hx : (x 1).val < 128 := (x 1).isLt
    have e1 := tRect_idx1 k (16 * c + (8 + s)) t x
    show _ = up6 (rf arg7 f ((tRect k (16 * c + (8 + s)) t).idx x)) ((tRect k (16 * c + (8 + s)) t).idx x 1).val
    rw [e1, col_b c s t hc hs ht]
    have hr : ∀ t', rf arg7 f ((tRect k (16 * c + (8 + s)) t').idx x) = rf arg7 f ((tRect k (16 * c + (8 + s)) t).idx x) := by
      intro t'
      refine congrArg (rowOf (R := 32) (C := 16384) (arg7.view.read (Elt Ideal) f)) ?_
      exact Fin.ext ((tRect_idx0 k _ t' x).trans (tRect_idx0 k _ t x).symm)
    have key := bf8E_eq (up3 (rf arg7 f ((tRect k (16 * c + (8 + s)) t).idx x))) 8 (128 * c + (x 1).val)
      (by norm_num; omega)
    have key' := congrFun key (8 * s + t)
    have sh := congrFun (bf8E_shift (fun u => up3 (rf arg7 f ((tRect k (16 * c + (8 + s)) t).idx x))
      (2 ^ 8 * u + (128 * c + (x 1).val))) s) t
    rw [show (2 : ℕ) ^ 8 = 256 by norm_num] at key' sh
    unfold up6
    rw [show 2048 * s + 256 * t + 128 * c + (x 1).val = 256 * (8 * s + t) + (128 * c + (x 1).val) by omega, ← key', ← sh]
    refine bf8E_congr (fun t' ht' => ?_) t ht
    show tLoad arg7 k f _ (16 * c + (8 + s)) t' x = _
    rw [tLoad_b arg7 k f _ t' (by omega)]
    have e2 := tRect_idx1 k (16 * c + (8 + s)) t' x
    rw [col_b c s t' hc hs ht'] at e2
    have e0 := tRect_idx0 k (16 * c + (8 + s)) t' x
    have hx0 : (x 0).val < 8 := (x 0).isLt
    obtain ⟨d1, d2, d3⟩ := dig s t' c (x 1).val ht' hc hx
    rw [(h.2 ((tRect k (16 * c + (8 + s)) t').idx x) (by omega) (by omega) (by rw [e2, d1, d2]; omega)).2]
    unfold gVal
    rw [e2, d1, d3, if_neg (by omega), hr t']
    congr 1; omega
  · intro y t ht hy
    obtain ⟨-, h0, h1⟩ := (mem_tRect k _ t y).1 hy
    rw [col_b c s t hc hs ht] at h0 h1
    obtain ⟨l, hl⟩ : ∃ l, (y 1).val = 2048 * s + 256 * t + 128 * c + l := ⟨_, (Nat.add_sub_of_le h0).symm⟩
    obtain ⟨d1, d2, d3⟩ := dig s t c l ht hc (by omega)
    unfold gVal
    rw [hl, d1, d3, if_pos (by omega)]
  · intro y h0 h1 h2 hm
    have hp : (y 1).val < 16384 := (y 1).isLt
    have hne : ¬ ((y 1).val / 128 % 2 = c ∧ (y 1).val / 2048 = s) := by
      rintro ⟨q1, q2⟩
      refine hm ⟨(y 1).val / 256 % 8, by omega, (mem_tRect k _ _ y).2 ⟨⟨h0, h1⟩, ?_⟩⟩
      rw [col_b c s _ hc hs (by omega)]
      omega
    have hc' : (y 1).val / 128 % 2 < 2 := by omega
    have hi' : (y 1).val / 2048 < 8 := by omega
    have hj' : (y 1).val / 256 % 8 < 8 := by omega
    unfold gVal
    generalize (y 1).val / 128 % 2 = c' at *
    generalize (y 1).val / 2048 = i' at *
    generalize (y 1).val / 256 % 8 = j' at *
    refine ⟨by omega, ?_⟩
    by_cases q : 16 * c' + 8 + i' < 16 * c + (8 + s)
    · rw [if_pos q, if_pos (by omega)]
    · rw [if_neg q, if_neg (by omega)]

theorem tInv (g : ℕ) (hg : g ≤ 32) : TInv arg7 k f g := by
  induction g with
  | zero => exact ⟨fun pc h => absurd h List.not_mem_nil, fun y _ _ h => absurd h (Nat.not_lt_zero _)⟩
  | succ g ih =>
    have ih := ih (by omega)
    by_cases hs : g % 16 < 8
    · obtain ⟨c, s, hc, hs', rfl⟩ : ∃ c s, c < 2 ∧ s < 8 ∧ g = 16 * c + s :=
        ⟨g / 16, g % 16, by omega, hs, by omega⟩
      exact TInv.stepA arg7 k f hc hs' ih
    · obtain ⟨c, s, hc, hs', rfl⟩ : ∃ c s, c < 2 ∧ s < 8 ∧ g = 16 * c + (8 + s) :=
        ⟨g / 16, g % 16 - 8, by omega, by omega, by omega⟩
      exact TInv.stepB arg7 k f hc hs' ih

/-- A trip's rows after it, and the others. -/
theorem trip_read (y : S32x16384.Idx) :
    arg7.view.read (Elt Ideal) (arg7.view.writes (Elt Ideal) f (tList arg7 k f 32)) y
      = if 8 * k.val ≤ (y 0).val ∧ (y 0).val < 8 * k.val + 8 then up6 (rf arg7 f y) (y 1).val
        else arg7.view.read (Elt Ideal) f y := by
  obtain ⟨iA, iB⟩ := tInv arg7 k f 32 le_rfl
  have hp : (y 1).val < 16384 := (y 1).isLt
  by_cases hy : 8 * k.val ≤ (y 0).val ∧ (y 0).val < 8 * k.val + 8
  · obtain ⟨hc, hv⟩ := iB y hy.1 hy.2 (by omega)
    rw [if_pos hy, View.read_writes_apply_eq_canon arg7.view f y _ hc, hv]
    unfold gVal
    rw [if_pos (by omega)]
  · rw [if_neg hy]
    exact View.read_writes_apply_of_forall_not_mem arg7.view f y _ fun pc hpc hm => hy (iA pc hpc y hm)

theorem trips4 : Scf.trips k0_t1_loop.lb k0_t1_loop.ub k0_t1_loop.st = 4 := by decide +kernel

/-- The rows after `n` trips. -/
theorem loop_read (𝒱 : Variants) (c : Dev nD) (bd : Option 𝒱.V) (i : grid0.Coords) (arg1 : Memref sig .tc .vmem S32x16384 .bf16) (harg1 : arg1.IsWhole) (arg2 : Memref sig .tc .vmem S1x16384 .f32) (harg2 : arg2.IsWhole) (arg3 : Memref sig .tc .vmem S256x256 .bf16) (harg3 : arg3.IsWhole) (arg4 : Memref sig .tc .vmem S32x16384 .i8) (harg4 : arg4.IsWhole) (arg5 : Memref sig .tc .vmem S32x16384 .fp8e4m3) (harg5 : arg5.IsWhole) (arg6 : Memref sig .tc .vmem S32x1 .f32) (harg6 : arg6.IsWhole) (arg7 : Memref sig .tc .vmem S32x16384 .f32) (harg7 : arg7.IsWhole) (arg8 : Memref sig .tc .vmem S8x128 .f32) (harg8 : arg8.IsWhole)
    (G : BufTy.Contents (Elt Ideal) arg7.view.ty) (n : ℕ) (hn : n ≤ 4) (y : S32x16384.Idx) :
    arg7.view.read (Elt Ideal) (arg7.view.writes (Elt Ideal) G
        (pb_k0_t1 (F := Ideal) 𝒱 c bd i arg1 harg1 arg2 harg2 arg3 harg3 arg4 harg4 arg5 harg5 arg6 harg6 arg7 harg7 arg8 harg8 G n)) y
      = if (y 0).val < 8 * n then up6 (rf arg7 G y) (y 1).val else arg7.view.read (Elt Ideal) G y := by
  induction n generalizing y with
  | zero => rw [if_neg (by omega)]; rfl
  | succ n ih =>
    have hlt : n < k0_t1_loop.trips := by
      have : k0_t1_loop.trips = 4 := trips4
      omega
    have e := pb_k0_t1_succ (F := Ideal) 𝒱 c bd i arg1 harg1 arg2 harg2 arg3 harg3 arg4 harg4 arg5 harg5 arg6 harg6 arg7 harg7 arg8 harg8 G ⟨n, hlt⟩
    dsimp only at e
    rw [e, View.writes_append]
    have e2 := trip_eq (F := Ideal) 𝒱 c bd i arg1 harg1 arg2 harg2 arg3 harg3 arg4 harg4 arg5 harg5 arg6 harg6 arg7 harg7 arg8 harg8 ⟨n, hlt⟩
      (arg7.view.writes (Elt Ideal) G (pb_k0_t1 (F := Ideal) 𝒱 c bd i arg1 harg1 arg2 harg2 arg3 harg3 arg4 harg4 arg5 harg5 arg6 harg6 arg7 harg7 arg8 harg8 G n))
    unfold tripL_k0_t1
    rw [e2, trip_read]
    dsimp only
    by_cases h1 : 8 * n ≤ (y 0).val ∧ (y 0).val < 8 * n + 8
    · rw [if_pos h1, if_pos (by omega)]
      congr 1
      funext p
      unfold rf rowOf
      by_cases hp : p < 16384
      · rw [dif_pos hp, dif_pos hp, ih (by omega) _, if_neg (by show ¬ (y 0).val < 8 * n; omega)]
      · rw [dif_neg hp, dif_neg hp]
    · rw [if_neg h1, ih (by omega) y]
      by_cases h2 : (y 0).val < 8 * n
      · rw [if_pos h2, if_pos (by omega)]
      · rw [if_neg h2, if_neg (by omega)]

end Cert.KernelIdeal.Val
-- ==== Proof.KQuant.lean ====
/- The first kernel call as a recursion over its 64 groups of 256 columns: the scratch as the groups before left it, the
   running maximum, the scales, and the stored codes; the generated run is that recursion. -/
module

public import proofs.«01_k».proof.Proof.Gen.KernelIdeal.Frame
public import proofs.«01_k».proof.Proof.KTrip

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]

/-- The columns of group `g`. -/
def qRect (g : ℕ) : Rect S32x16384 :=
  Rect.unit ![0, 256 * (g % 64)] S32x256.size (by
    intro a
    match a with
    | ⟨0, _⟩ => show 0 + 32 ≤ 32; omega
    | ⟨1, _⟩ => show 256 * (g % 64) + 256 ≤ 16384; omega)

/-- The group's columns `v` in three parts, each times the Hadamard matrix `had`, summed and scaled. -/
def spl (had : FVec F S256x256 .bf16) (v : FVec F S32x256 .f32) : FVec F S32x256 .f32 :=
  let hi := truncf .bf16 v bitsLt_bf16_f32
  let r1 := subf v (extf .f32 hi bitsLt_bf16_f32)
  let mid := truncf .bf16 r1 bitsLt_bf16_f32
  let lo := truncf .bf16 (subf r1 (extf .f32 mid bitsLt_bf16_f32)) bitsLt_bf16_f32
  mulf (addf (addf
      (matmul dot_S32x256_S256x256_S32x256_1_0_0_1_n_n none lo had (constant S32x256 .f32 0x00000000#32))
      (matmul dot_S32x256_S256x256_S32x256_1_0_0_1_n_n none mid had (constant S32x256 .f32 0x00000000#32)))
      (matmul dot_S32x256_S256x256_S32x256_1_0_0_1_n_n none hi had (constant S32x256 .f32 0x00000000#32)))
    (broadcast S32x256 (Scalar.ofBits .f32 0x3C000000#32))

/-- The scratch's stores once the groups before `n` are done, from the stores `L0`. -/
def qList (arg7 : Memref sig .tc .vmem S32x16384 .f32) (had : FVec F S256x256 .bf16)
    (L0 : List (View.Piece (Elt F) S32x16384 .f32)) : ℕ → List (View.Piece (Elt F) S32x16384 .f32)
  | 0 => L0
  | g + 1 => ⟨qRect g, shapeCast S32x256 (spl had (arg7.view.readCov (qList arg7 had L0 g) (qRect g).toLoadRect))
      shapeCasts_S32x256_S32x256⟩ :: qList arg7 had L0 g

/-- The running maximum over the groups before `n`. -/
def qMax (arg7 : Memref sig .tc .vmem S32x16384 .f32) (had : FVec F S256x256 .bf16)
    (L0 : List (View.Piece (Elt F) S32x16384 .f32)) : ℕ → FVec F S32x256 .f32
  | 0 => broadcast S32x256 (Scalar.ofBits .f32 0x00000000#32)
  | g + 1 => maximumf (qMax arg7 had L0 g)
      (absf (spl had (arg7.view.readCov (qList arg7 had L0 g) (qRect g).toLoadRect)))

/-- The scales of a running maximum. -/
def sclF (mx : FVec F S32x256 .f32) : FVec F S32x1 .f32 :=
  let a := shapeCast S32x1 (multiReduction .maximumf [1] S32 mx 0xFF800000#32 reduces_S32x256_S32 (.inl rfl) rfl)
    shapeCasts_S32_S32x1
  select (cmpf .oeq a (broadcast S32x1 (Scalar.ofBits .f32 0x00000000#32)))
    (broadcast S32x1 (Scalar.ofBits .f32 0x3F800000#32))
    (divf a (broadcast S32x1 (Scalar.ofBits .f32 0x40E00000#32)))

/-- The rounded and clamped quotients of columns `v` by the scales `s`. -/
def qF (s : FVec F S32x1 .f32) (v : FVec F S32x256 .f32) : FVec F S32x256 .f32 :=
  minimumf (broadcast S32x256 (Scalar.ofBits .f32 0x40E00000#32))
    (maximumf (broadcast S32x256 (Scalar.ofBits .f32 0xC0E00000#32))
      (roundeven (divf v (broadcastTo S32x256 s broadcasts_S32x1_S32x256))))

/-- The code stores of the groups before `n`. -/
def cList (arg7 : Memref sig .tc .vmem S32x16384 .f32) (s : FVec F S32x1 .f32)
    (L : List (View.Piece (Elt F) S32x16384 .f32)) : ℕ → List (View.Piece (Elt F) S32x16384 .i8)
  | 0 => []
  | g + 1 => ⟨qRect g, fptosi 8 (qF s (arg7.view.readCov L (qRect g).toLoadRect))⟩ :: cList arg7 s L g

/-- The stores of the codes as floats. -/
def xList (arg7 : Memref sig .tc .vmem S32x16384 .f32) (s : FVec F S32x1 .f32)
    (L : List (View.Piece (Elt F) S32x16384 .f32)) : ℕ → List (View.Piece (Elt F) S32x16384 .fp8e4m3)
  | 0 => []
  | g + 1 => ⟨qRect g, truncf .fp8e4m3 (qF s (arg7.view.readCov L (qRect g).toLoadRect)) bitsLt_fp8e4m3_f32⟩
      :: xList arg7 s L g

/-- The one store before the loop: the normalised rows. -/
def nList (arg1 : Memref sig .tc .vmem S32x16384 .bf16) (harg1 : arg1.IsWhole) (arg2 : Memref sig .tc .vmem S1x16384 .f32)
    (harg2 : arg2.IsWhole) (x0 : Vec F S32x16384 .bf16) (x1 : Vec F S1x16384 .f32) :
    List (View.Piece (Elt F) S32x16384 .f32) :=
  [⟨Rect.unit ![0, 0] S32x16384.size inb_S32x16384_S32x16384_0_0,
    k0_pay901 (View.readAt (Elt F) arg1.view (Rect.unit ![0, 0] S32x16384.size inb_S32x16384_S32x16384_0_0).toLoadRect (harg1.unread x0))
      (View.readAt (Elt F) arg2.view (Rect.unit ![0, 0] S1x16384.size inb_S1x16384_S1x16384_0_0).toLoadRect (harg2.unread x1))⟩]

/-- The Hadamard matrix as loaded. -/
def hadL (arg3 : Memref sig .tc .vmem S256x256 .bf16) (harg3 : arg3.IsWhole) (x2 : Vec F S256x256 .bf16) :
    FVec F S256x256 .bf16 :=
  shapeCast S256x256 (View.readAt (Elt F) arg3.view (Rect.unit ![0, 0] S256x256.size inb_S256x256_S256x256_0_0).toLoadRect (harg3.unread x2))
    shapeCasts_S256x256_S256x256

variable (c : Dev nD) (i : grid0.Coords) (arg1 : Memref sig .tc .vmem S32x16384 .bf16) (harg1 : arg1.IsWhole) (arg2 : Memref sig .tc .vmem S1x16384 .f32) (harg2 : arg2.IsWhole) (arg3 : Memref sig .tc .vmem S256x256 .bf16) (harg3 : arg3.IsWhole) (arg4 : Memref sig .tc .vmem S32x16384 .i8) (harg4 : arg4.IsWhole) (arg5 : Memref sig .tc .vmem S32x16384 .fp8e4m3) (harg5 : arg5.IsWhole) (arg6 : Memref sig .tc .vmem S32x1 .f32) (harg6 : arg6.IsWhole) (arg7 : Memref sig .tc .vmem S32x16384 .f32) (harg7 : arg7.IsWhole) (arg8 : Memref sig .tc .vmem S8x128 .f32) (harg8 : arg8.IsWhole)
variable (x0 : Vec F S32x16384 .bf16) (x1 : Vec F S1x16384 .f32) (x2 : Vec F S256x256 .bf16)

/-- The scratch's stores after the row loop. -/
def lList : List (View.Piece (Elt F) S32x16384 .f32) :=
  pb_k0_t1 (F := F) Variants.none c none i arg1 harg1 arg2 harg2 arg3 harg3 arg4 harg4 arg5 harg5 arg6 harg6 arg7 harg7 arg8 harg8
    (arg7.view.writes (Elt F) arg7.view.junk (nList arg1 harg1 arg2 harg2 x0 x1)) (Scf.trips k0_t1_loop.lb k0_t1_loop.ub k0_t1_loop.st)
    ++ nList arg1 harg1 arg2 harg2 x0 x1

theorem run0_scale :
    (kernelRun0_A (F := F) c i arg1 harg1 arg2 harg2 arg3 harg3 arg4 harg4 arg5 harg5 arg6 harg6 arg7 harg7 arg8 harg8 x0 x1 x2).2.2.1
      = [⟨Rect.unit ![0, 0] S32x1.size inb_S32x1_S32x1_0_0,
          sclF (qMax arg7 (hadL arg3 harg3 x2) (lList c i arg1 harg1 arg2 harg2 arg3 harg3 arg4 harg4 arg5 harg5 arg6 harg6 arg7 harg7 arg8 harg8 x0 x1) 64)⟩] := by sl_kernel_rfl

theorem run0_codes :
    (kernelRun0_A (F := F) c i arg1 harg1 arg2 harg2 arg3 harg3 arg4 harg4 arg5 harg5 arg6 harg6 arg7 harg7 arg8 harg8 x0 x1 x2).1
      = cList arg7 (sclF (qMax arg7 (hadL arg3 harg3 x2) (lList c i arg1 harg1 arg2 harg2 arg3 harg3 arg4 harg4 arg5 harg5 arg6 harg6 arg7 harg7 arg8 harg8 x0 x1) 64))
          (qList arg7 (hadL arg3 harg3 x2) (lList c i arg1 harg1 arg2 harg2 arg3 harg3 arg4 harg4 arg5 harg5 arg6 harg6 arg7 harg7 arg8 harg8 x0 x1) 64) 64 := by sl_kernel_rfl

theorem run0_x8 :
    (kernelRun0_A (F := F) c i arg1 harg1 arg2 harg2 arg3 harg3 arg4 harg4 arg5 harg5 arg6 harg6 arg7 harg7 arg8 harg8 x0 x1 x2).2.1
      = xList arg7 (sclF (qMax arg7 (hadL arg3 harg3 x2) (lList c i arg1 harg1 arg2 harg2 arg3 harg3 arg4 harg4 arg5 harg5 arg6 harg6 arg7 harg7 arg8 harg8 x0 x1) 64))
          (qList arg7 (hadL arg3 harg3 x2) (lList c i arg1 harg1 arg2 harg2 arg3 harg3 arg4 harg4 arg5 harg5 arg6 harg6 arg7 harg7 arg8 harg8 x0 x1) 64) 64 := by sl_kernel_rfl

end Cert.KernelIdeal.Val
-- ==== Proof.KGroup.lean ====
/- The first kernel call's values over the extended reals: each row's scale and codes are those of its transform. -/
module

public import proofs.«01_k».proof.Proof.KLoop
public import proofs.«01_k».proof.Proof.KQuant
public import Idealize.ShloMosaic.Lib.Pointwise
public import Idealize.ShloMosaic.Lib.WholeRead

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Proof

theorem pay901_apply (x0 : Vec Ideal S32x16384 .bf16) (x1 : Vec Ideal S1x16384 .f32) (r : Fin 32) (p : Fin 16384) :
    k0_pay901 (F := Ideal) x0 x1 (ix2 r p) = nrmE (fun u => x0 (ix2 r u)) (fun u => x1 (ix2 0 u)) p.val := by
  unfold nrmE
  rw [dif_pos p.isLt]
  unfold k0_pay901
  pointwise

/-- The group's product at an element, in terms of its row. -/
def splE (w : ℕ → EReal) (had : Fin 256 → EReal) : EReal :=
  (((0 + ∑ u : Fin 256, ((w u - w u) - (w u - w u)) * had u) + (0 + ∑ u : Fin 256, (w u - w u) * had u))
    + (0 + ∑ u : Fin 256, w u * had u)) * Ideal.ofBits .f32 0x3C000000#32

theorem spl_apply (had : FVec Ideal S256x256 .bf16) (v : FVec Ideal S32x256 .f32) (r : Fin 32) (l : Fin 256) (w : ℕ → EReal)
    (hw : ∀ u : Fin 256, v (ix2 r u) = w u) :
    spl had v (ix2 r l) = splE w (fun u => had (ix2 u l)) := by
  unfold splE
  simp only [zero_add, ← hw]
  unfold spl
  pointwise

theorem qF_apply (s : FVec Ideal S32x1 .f32) (v : FVec Ideal S32x256 .f32) (r : Fin 32) (l : Fin 256) :
    qF s v (ix2 r l) = clipR (Ideal.div (v (ix2 r l)) (s (ix2 r 0))) := by
  unfold clipR
  rw [← cst7_eq, ← cstm7_eq]
  unfold qF
  pointwise

theorem sclF_apply (mx : FVec Ideal S32x256 .f32) (r : Fin 32) :
    sclF mx (ix2 r 0) = scaleOf (Finset.univ.sup fun x : Fin 256 => mx (ix2 r x)) := by
  have e : Finset.fold max (Ideal.ofBits FTy.f32 4286578688#32) (fun x => mx (ix2 r x)) Finset.univ
      = Finset.univ.sup fun x : Fin 256 => mx (ix2 r x) := by
    rw [show Ideal.ofBits FTy.f32 4286578688#32 = ⊥ from cstbot_eq]; rfl
  unfold scaleOf
  rw [← e, ← cst7_eq]
  unfold sclF
  pointwise

/-- Splits a column of the row into its group and its place there. -/
theorem qRect_idx (g : ℕ) (hg : g < 64) (r : Fin 32) (l : Fin 256) :
    (qRect g).idx (ix2 r l) = ix2 r (⟨256 * g + l.val, by have := l.isLt; omega⟩ : Fin 16384) := by
  funext a
  match a with
  | ⟨0, _⟩ => exact Fin.ext (show 0 + 1 * r.val = r.val by omega)
  | ⟨1, _⟩ => exact Fin.ext (show 256 * (g % 64) + 1 * l.val = 256 * g + l.val by omega)

theorem mem_qRect (g : ℕ) (hg : g < 64) (r : Fin 32) (p : Fin 16384) :
    ix2 r p ∈ (qRect g).set ↔ p.val / 256 = g := by
  unfold qRect
  rw [Rect.mem_set_unit]
  constructor
  · intro h
    have h1 : 256 * (g % 64) ≤ p.val ∧ p.val < 256 * (g % 64) + 256 := h 1
    omega
  · intro h a
    match a with
    | ⟨0, _⟩ => exact ⟨Nat.zero_le _, by show r.val < 0 + 32; omega⟩
    | ⟨1, _⟩ => show 256 * (g % 64) ≤ p.val ∧ p.val < 256 * (g % 64) + 256; omega

/-- Pieces stored group by group leave, at a column of group `g`, what group `g` stored there. -/
theorem canon_groups {e : EltTy} (L : ℕ → List (View.Piece (Elt Ideal) S32x16384 e))
    (w : ℕ → S32x256.Idx → Elt Ideal e) (hL : ∀ g, L (g + 1) = ⟨qRect g, w g⟩ :: L g) (n : ℕ) (hn : n ≤ 64)
    (r : Fin 32) (p : Fin 16384) :
    View.canon (L n) (ix2 r p) = if p.val / 256 < n then w (p.val / 256) (ix2 r ⟨p.val % 256, Nat.mod_lt _ (by norm_num)⟩)
      else View.canon (L 0) (ix2 r p) := by
  induction n with
  | zero => rw [if_neg (by omega)]
  | succ n ih =>
    rw [hL]
    by_cases h : p.val / 256 = n
    · have e := View.canon_cons_emb (qRect n) (w n) (L n) (ix2 r ⟨p.val % 256, Nat.mod_lt _ (by norm_num)⟩)
      have e2 : (qRect n).emb (ix2 r ⟨p.val % 256, Nat.mod_lt _ (by norm_num)⟩) = ix2 r p := by
        refine (qRect_idx n (by omega) r _).trans ?_
        congr 1; exact Fin.ext (by show 256 * n + p.val % 256 = p.val; omega)
      rw [e2] at e
      rw [e, if_pos (by omega)]
      subst h; rfl
    · have hn' : n < 64 := by omega
      have hnm : ix2 r p ∉ (qRect n).set := fun hm => h ((mem_qRect n hn' r p).1 hm)
      refine (View.canon_cons_of_not_mem ⟨qRect n, w n⟩ (L n) hnm).trans ((ih hn'.le).trans ?_)
      by_cases h2 : p.val / 256 < n
      · rw [if_pos h2, if_pos (by omega)]
      · rw [if_neg h2, if_neg (by omega)]

variable (arg7 : Memref sig .tc .vmem S32x16384 .f32) (had : FVec Ideal S256x256 .bf16)
    (L0 : List (View.Piece (Elt Ideal) S32x16384 .f32)) (W : Fin 32 → ℕ → EReal)

/-- The transformed element of row `r` at column `p`. -/
def yE (r : Fin 32) (p : ℕ) : EReal :=
  splE (fun u => W r (256 * (p / 256) + u)) (fun u => had (ix2 u ⟨p % 256, Nat.mod_lt _ (by norm_num)⟩))

theorem group_load (h0 : ∀ r p, View.canon L0 (ix2 r p) = W r p.val) (g : ℕ) (hg : g < 64) (r : Fin 32) (l : Fin 256) :
    spl had (arg7.view.readCov (qList arg7 had L0 g) (qRect g).toLoadRect) (ix2 r l) = yE had W r (256 * g + l.val) := by
  have hl := l.isLt
  refine (spl_apply had _ r l (fun u => W r (256 * g + u)) ?_).trans ?_
  swap
  · unfold yE
    rw [show (256 * g + l.val) / 256 = g by omega]
    congr 1; funext u; congr 2
    exact Fin.ext (show l.val = (256 * g + l.val) % 256 by omega)
  · intro u
    have hu := u.isLt
    have e := congrFun (View.readCov_eq_canon' arg7.view (qList arg7 had L0 g) (qRect g).toLoadRect) (ix2 r u)
    refine e.trans ?_
    show View.canon (qList arg7 had L0 g) ((qRect g).idx (ix2 r u)) = _
    rw [qRect_idx g hg, canon_groups (qList arg7 had L0) _ (fun g => rfl) g (by omega), if_neg (by
      show ¬ (256 * g + u.val) / 256 < g; omega)]
    exact h0 r _

theorem qList_canon (h0 : ∀ r p, View.canon L0 (ix2 r p) = W r p.val) (r : Fin 32) (p : Fin 16384) :
    View.canon (qList arg7 had L0 64) (ix2 r p) = yE had W r p.val := by
  have hp := p.isLt
  rw [canon_groups (qList arg7 had L0) _ (fun g => rfl) 64 le_rfl, if_pos (by omega)]
  refine (congrFun (shapeCast_self _ _) _).trans ?_
  rw [group_load arg7 had L0 W h0 (p.val / 256) (by omega)]
  congr 1
  show 256 * (p.val / 256) + p.val % 256 = p.val
  omega

theorem qMax_le (h0 : ∀ r p, View.canon L0 (ix2 r p) = W r p.val) (n : ℕ) (hn : n ≤ 64) (r : Fin 32) (l : Fin 256) (b : EReal) :
    qMax arg7 had L0 n (ix2 r l) ≤ b ↔ 0 ≤ b ∧ ∀ g < n, max (yE had W r (256 * g + l.val)) (-yE had W r (256 * g + l.val)) ≤ b := by
  induction n with
  | zero =>
    show Ideal.ofBits .f32 0x00000000#32 ≤ b ↔ _
    rw [cst0_eq]
    exact ⟨fun h => ⟨h, fun g hg => absurd hg (Nat.not_lt_zero _)⟩, fun h => h.1⟩
  | succ n ih =>
    show max (qMax arg7 had L0 n (ix2 r l)) (max (spl had _ (ix2 r l)) (-(spl had _ (ix2 r l)))) ≤ b ↔ _
    rw [group_load arg7 had L0 W h0 n (by omega), max_le_iff, ih (by omega)]
    constructor
    · rintro ⟨⟨h1, h2⟩, h3⟩
      refine ⟨h1, fun g hg => ?_⟩
      by_cases e : g = n
      · subst e; exact h3
      · exact h2 g (by omega)
    · rintro ⟨h1, h2⟩
      exact ⟨⟨h1, fun g hg => h2 g (by omega)⟩, h2 n (by omega)⟩

theorem max_neg_nonneg (a : EReal) : 0 ≤ max a (-a) := by
  rcases le_total 0 a with h | h
  · exact le_max_of_le_left h
  · exact le_max_of_le_right (by rw [EReal.le_neg, neg_zero]; exact h)

theorem kmax_eq (h0 : ∀ r p, View.canon L0 (ix2 r p) = W r p.val) (r : Fin 32) :
    (Finset.univ.sup fun x : Fin 256 => qMax arg7 had L0 64 (ix2 r x)) = amaxE (yE had W r) := by
  refine eq_of_forall_ge_iff fun b => ?_
  rw [amaxE_le, Finset.sup_le_iff]
  constructor
  · intro h p
    have hp := p.isLt
    have := ((qMax_le arg7 had L0 W h0 64 le_rfl r ⟨p.val % 256, Nat.mod_lt _ (by norm_num)⟩ b).1 (h _ (Finset.mem_univ _))).2
      (p.val / 256) (by omega)
    rw [show 256 * (p.val / 256) + (⟨p.val % 256, Nat.mod_lt _ (by norm_num)⟩ : Fin 256).val = p.val by
      show 256 * (p.val / 256) + p.val % 256 = p.val; omega] at this
    exact this
  · intro h l _
    have hl := l.isLt
    refine (qMax_le arg7 had L0 W h0 64 le_rfl r l b).2 ⟨(max_neg_nonneg _).trans (h 0), fun g hg => ?_⟩
    exact h ⟨256 * g + l.val, by omega⟩

end Cert.KernelIdeal.Val
-- ==== Proof.KBlock.lean ====
/- The first kernel call's blocks: scales, codes and codes as floats of each row's transform. -/
module

public import proofs.«01_k».proof.Proof.KGroup

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Proof

/-- The whole of a matrix, read at an element. -/
theorem unit_zero_idx {R C : ℕ} (inb : ∀ a, (![0, 0] : Fin 2 → ℕ) a + (![R, C] : Fin 2 → ℕ) a ≤ (⟨2, ![R, C]⟩ : Shape).size a)
    (r : Fin R) (p : Fin C) :
    (Rect.unit (s := ⟨2, ![R, C]⟩) ![0, 0] ![R, C] inb).idx (ix2 r p) = ix2 r p := by
  funext a
  match a with
  | ⟨0, _⟩ => exact Fin.ext (show 0 + 1 * r.val = r.val by omega)
  | ⟨1, _⟩ => exact Fin.ext (show 0 + 1 * p.val = p.val by omega)

theorem unit_zero_idx' {R C : ℕ} (inb : ∀ a, (![0, 0] : Fin 2 → ℕ) a + (![R, C] : Fin 2 → ℕ) a ≤ (⟨2, ![R, C]⟩ : Shape).size a)
    (x : (⟨2, ![R, C]⟩ : Shape).Idx) :
    (Rect.unit (s := ⟨2, ![R, C]⟩) ![0, 0] ![R, C] inb).idx x = x := by
  funext a
  match a with
  | ⟨0, _⟩ => exact Fin.ext (show 0 + 1 * (x 0).val = (x 0).val by omega)
  | ⟨1, _⟩ => exact Fin.ext (show 0 + 1 * (x 1).val = (x 1).val by omega)

/-- The transform of row `r` of a block. -/
abbrev hRow (x0 : Vec Ideal S32x16384 .bf16) (x1 : Vec Ideal S1x16384 .f32) (r : Fin 32) : ℕ → EReal :=
  hadE (fun u => x0 (ix2 r u)) (fun u => x1 (ix2 0 u))

/-- The normalised row after the upper stages. -/
abbrev wRow (x0 : Vec Ideal S32x16384 .bf16) (x1 : Vec Ideal S1x16384 .f32) (r : Fin 32) : ℕ → EReal :=
  up6 (nrmE (fun u => x0 (ix2 r u)) (fun u => x1 (ix2 0 u)))

/-- A matrix whose entries are the signs of the Hadamard matrix. -/
def IsHad (x2 : Vec Ideal S256x256 .bf16) : Prop := ∀ u l : Fin 256, x2 (ix2 u l) = ((sgn 8 l.val u.val : ℝ) : EReal)

theorem yE_rel (x2 : Vec Ideal S256x256 .bf16) (h2 : IsHad x2) (W : Fin 32 → ℕ → EReal) (r : Fin 32) (p : ℕ) :
    Rel (yE x2 W r p) (lowE (W r) p * Ideal.ofBits .f32 0x3C000000#32) := by
  have h := group_rel (p / 256) (W r) (p % 256) (Nat.mod_lt _ (by norm_num)) (fun u => x2 (ix2 u ⟨p % 256, Nat.mod_lt _ (by norm_num)⟩))
    (fun u => h2 u _)
  rw [show 256 * (p / 256) + p % 256 = p by omega] at h
  unfold yE splE
  rw [c7_eq]
  exact h.mul (by norm_num)

theorem amax_rel {v w : ℕ → EReal} (h : ∀ p, Rel (v p) (w p)) : amaxE v = amaxE w := by
  unfold amaxE
  exact congrArg (Finset.univ.sup) (funext fun p => (h p.val).abs)

theorem le_amaxE (v : ℕ → EReal) (p : Fin 16384) : max (v p.val) (-(v p.val)) ≤ amaxE v := amaxE_le.1 le_rfl p

theorem q_rel {v w : ℕ → EReal} (h : ∀ p, Rel (v p) (w p)) (p : Fin 16384) : qE v p.val = qE w p.val := by
  unfold qE sclE
  rw [amax_rel h, quant_eq (h p.val) (amax_rel h ▸ le_amaxE v p)]

section
variable (c : Dev nD) (i : grid0.Coords) (arg1 : Memref sig .tc .vmem S32x16384 .bf16) (harg1 : arg1.IsWhole) (arg2 : Memref sig .tc .vmem S1x16384 .f32) (harg2 : arg2.IsWhole) (arg3 : Memref sig .tc .vmem S256x256 .bf16) (harg3 : arg3.IsWhole) (arg4 : Memref sig .tc .vmem S32x16384 .i8) (harg4 : arg4.IsWhole) (arg5 : Memref sig .tc .vmem S32x16384 .fp8e4m3) (harg5 : arg5.IsWhole) (arg6 : Memref sig .tc .vmem S32x1 .f32) (harg6 : arg6.IsWhole) (arg7 : Memref sig .tc .vmem S32x16384 .f32) (harg7 : arg7.IsWhole) (arg8 : Memref sig .tc .vmem S8x128 .f32) (harg8 : arg8.IsWhole)
variable (x0 : Vec Ideal S32x16384 .bf16) (x1 : Vec Ideal S1x16384 .f32) (x2 : Vec Ideal S256x256 .bf16)

theorem nList_canon (y : S32x16384.Idx) : View.canon (nList (F := Ideal) arg1 harg1 arg2 harg2 x0 x1) y = k0_pay901 x0 x1 y := by
  unfold nList
  have e := View.canon_cons_emb (Val := Elt Ideal) (e := .f32) (Rect.unit (s := S32x16384) ![0, 0] S32x16384.size inb_S32x16384_S32x16384_0_0)
    (k0_pay901 (View.readAt (Elt Ideal) arg1.view (Rect.unit ![0, 0] S32x16384.size inb_S32x16384_S32x16384_0_0).toLoadRect (harg1.unread x0))
      (View.readAt (Elt Ideal) arg2.view (Rect.unit ![0, 0] S1x16384.size inb_S1x16384_S1x16384_0_0).toLoadRect (harg2.unread x1))) [] y
  rw [show (Rect.unit (s := S32x16384) ![0, 0] S32x16384.size inb_S32x16384_S32x16384_0_0).emb y = y from
    unit_zero_idx' (R := 32) (C := 16384) _ y] at e
  refine e.trans ?_
  have e0 : View.readAt (Elt Ideal) arg1.view (Rect.unit ![0, 0] S32x16384.size inb_S32x16384_S32x16384_0_0).toLoadRect (harg1.unread x0) = x0 :=
    funext fun z => (harg1.readAt_unread x0 _ z).trans (congrArg x0 (unit_zero_idx' (R := 32) (C := 16384) _ z))
  have e1 : View.readAt (Elt Ideal) arg2.view (Rect.unit ![0, 0] S1x16384.size inb_S1x16384_S1x16384_0_0).toLoadRect (harg2.unread x1) = x1 :=
    funext fun z => (harg2.readAt_unread x1 _ z).trans (congrArg x1 (unit_zero_idx' (R := 1) (C := 16384) _ z))
  rw [e0, e1]

theorem hadL_eq : hadL (F := Ideal) arg3 harg3 x2 = x2 := by
  unfold hadL
  refine (shapeCast_self _ _).trans ?_
  exact funext fun z => (harg3.readAt_unread x2 _ z).trans (congrArg x2 (unit_zero_idx' (R := 256) (C := 256) _ z))

theorem lList_canon (r : Fin 32) (p : Fin 16384) :
    View.canon (lList (F := Ideal) c i arg1 harg1 arg2 harg2 arg3 harg3 arg4 harg4 arg5 harg5 arg6 harg6 arg7 harg7 arg8 harg8 x0 x1) (ix2 r p) = wRow x0 x1 r p.val := by
  rw [← View.read_writes_junk_eq_canon arg7.view]
  unfold lList
  rw [View.writes_append, trips4, loop_read _ _ _ _ _ _ _ _ _ _ _ _ _ _ _ _ _ _ _ _ _ 4 le_rfl, if_pos (by show r.val < 32; exact r.isLt)]
  show up6 (rf arg7 _ (ix2 r p)) p.val = _
  unfold wRow
  congr 2
  funext q
  unfold rf rowOf nrmE
  by_cases hq : q < 16384
  · rw [dif_pos hq, dif_pos hq, View.read_writes_junk_eq_canon, nList_canon]
    have e := pay901_apply x0 x1 r ⟨q, hq⟩
    unfold nrmE at e
    rw [dif_pos hq] at e
    exact e
  · rw [dif_neg hq, dif_neg hq]

/-- The transformed element of the block. -/
abbrev kY (r : Fin 32) (p : ℕ) : EReal := yE x2 (fun r => wRow x0 x1 r) r p

theorem kY_rel (h2 : IsHad x2) (r : Fin 32) (p : ℕ) : Rel (kY x0 x1 x2 r p) (hRow x0 x1 r p) := yE_rel x2 h2 _ r p

theorem kscale (h2 : IsHad x2) (r : Fin 32) :
    sclF (qMax arg7 (hadL (F := Ideal) arg3 harg3 x2) (lList c i arg1 harg1 arg2 harg2 arg3 harg3 arg4 harg4 arg5 harg5 arg6 harg6 arg7 harg7 arg8 harg8 x0 x1) 64) (ix2 r 0) = sclE (hRow x0 x1 r) := by
  rw [sclF_apply, kmax_eq arg7 _ _ (fun r => wRow x0 x1 r) (lList_canon c i arg1 harg1 arg2 harg2 arg3 harg3 arg4 harg4 arg5 harg5 arg6 harg6 arg7 harg7 arg8 harg8 x0 x1), hadL_eq]
  unfold sclE
  rw [amax_rel (fun p => kY_rel x0 x1 x2 h2 r p)]

theorem kq (h2 : IsHad x2) (r : Fin 32) (g : ℕ) (hg : g < 64) (l : Fin 256) :
    qF (sclF (qMax arg7 (hadL (F := Ideal) arg3 harg3 x2) (lList c i arg1 harg1 arg2 harg2 arg3 harg3 arg4 harg4 arg5 harg5 arg6 harg6 arg7 harg7 arg8 harg8 x0 x1) 64))
      (arg7.view.readCov (qList arg7 (hadL arg3 harg3 x2) (lList c i arg1 harg1 arg2 harg2 arg3 harg3 arg4 harg4 arg5 harg5 arg6 harg6 arg7 harg7 arg8 harg8 x0 x1) 64) (qRect g).toLoadRect) (ix2 r l)
      = qE (hRow x0 x1 r) (256 * g + l.val) := by
  have hl := l.isLt
  refine (qF_apply _ _ r l).trans ?_
  have e : arg7.view.readCov (qList arg7 (hadL arg3 harg3 x2) (lList c i arg1 harg1 arg2 harg2 arg3 harg3 arg4 harg4 arg5 harg5 arg6 harg6 arg7 harg7 arg8 harg8 x0 x1) 64) (qRect g).toLoadRect (ix2 r l)
      = kY x0 x1 x2 r (256 * g + l.val) := by
    refine (congrFun (View.readCov_eq_canon' arg7.view _ (qRect g).toLoadRect) (ix2 r l)).trans ?_
    show View.canon (qList arg7 (hadL arg3 harg3 x2) (lList c i arg1 harg1 arg2 harg2 arg3 harg3 arg4 harg4 arg5 harg5 arg6 harg6 arg7 harg7 arg8 harg8 x0 x1) 64) ((qRect g).idx (ix2 r l)) = _
    rw [qRect_idx g hg, qList_canon arg7 _ _ (fun r => wRow x0 x1 r) (lList_canon c i arg1 harg1 arg2 harg2 arg3 harg3 arg4 harg4 arg5 harg5 arg6 harg6 arg7 harg7 arg8 harg8 x0 x1), hadL_eq]
  rw [kscale c i arg1 harg1 arg2 harg2 arg3 harg3 arg4 harg4 arg5 harg5 arg6 harg6 arg7 harg7 arg8 harg8 x0 x1 x2 h2 r]
  refine Eq.trans (congrArg (fun z => clipR (Ideal.div z (sclE (hRow x0 x1 r)))) e) ?_
  have h : qE (kY x0 x1 x2 r) (256 * g + l.val) = qE (hRow x0 x1 r) (256 * g + l.val) :=
    q_rel (fun p => kY_rel x0 x1 x2 h2 r p) ⟨256 * g + l.val, by omega⟩
  refine Eq.trans ?_ h
  have hs : sclE (kY x0 x1 x2 r) = sclE (hRow x0 x1 r) :=
    congrArg scaleOf (amax_rel (fun p => kY_rel x0 x1 x2 h2 r p))
  show _ = clipR (Ideal.div (kY x0 x1 x2 r (256 * g + l.val)) (sclE (kY x0 x1 x2 r)))
  rw [hs]

theorem out_scale (h2 : IsHad x2) (r : Fin 32) :
    out0_A_5 (F := Ideal) c i arg1 harg1 arg2 harg2 arg3 harg3 arg4 harg4 arg5 harg5 arg6 harg6 arg7 harg7 arg8 harg8 x0 x1 x2 (ix2 r 0) = sclE (hRow x0 x1 r) := by
  unfold out0_A_5
  rw [View.read_writes_junk_eq_canon, run0_scale]
  have e := View.canon_cons_emb (Val := Elt Ideal) (e := .f32) (Rect.unit (s := S32x1) ![0, 0] S32x1.size inb_S32x1_S32x1_0_0)
    (sclF (qMax arg7 (hadL (F := Ideal) arg3 harg3 x2) (lList c i arg1 harg1 arg2 harg2 arg3 harg3 arg4 harg4 arg5 harg5 arg6 harg6 arg7 harg7 arg8 harg8 x0 x1) 64)) [] (ix2 r 0)
  rw [show (Rect.unit (s := S32x1) ![0, 0] S32x1.size inb_S32x1_S32x1_0_0).emb (ix2 r 0) = ix2 r 0 from
    unit_zero_idx (R := 32) (C := 1) _ r 0] at e
  exact e.trans (kscale c i arg1 harg1 arg2 harg2 arg3 harg3 arg4 harg4 arg5 harg5 arg6 harg6 arg7 harg7 arg8 harg8 x0 x1 x2 h2 r)

theorem out_codes (h2 : IsHad x2) (r : Fin 32) (p : Fin 16384) :
    out0_A_3 (F := Ideal) c i arg1 harg1 arg2 harg2 arg3 harg3 arg4 harg4 arg5 harg5 arg6 harg6 arg7 harg7 arg8 harg8 x0 x1 x2 (ix2 r p) = Ideal.fptosi 8 (qE (hRow x0 x1 r) p.val) := by
  have hp := p.isLt
  unfold out0_A_3
  rw [View.read_writes_junk_eq_canon, run0_codes, canon_groups (cList _ _ _) _ (fun g => rfl) 64 le_rfl, if_pos (by omega)]
  refine (congrArg (Ideal.fptosi 8) (kq c i arg1 harg1 arg2 harg2 arg3 harg3 arg4 harg4 arg5 harg5 arg6 harg6 arg7 harg7 arg8 harg8 x0 x1 x2 h2 r (p.val / 256) (by omega) _)).trans ?_
  congr 2
  show 256 * (p.val / 256) + p.val % 256 = p.val
  omega

theorem out_x8 (h2 : IsHad x2) (r : Fin 32) (p : Fin 16384) :
    out0_A_4 (F := Ideal) c i arg1 harg1 arg2 harg2 arg3 harg3 arg4 harg4 arg5 harg5 arg6 harg6 arg7 harg7 arg8 harg8 x0 x1 x2 (ix2 r p) = qE (hRow x0 x1 r) p.val := by
  have hp := p.isLt
  unfold out0_A_4
  rw [View.read_writes_junk_eq_canon, run0_x8, canon_groups (xList _ _ _) _ (fun g => rfl) 64 le_rfl, if_pos (by omega)]
  refine (kq c i arg1 harg1 arg2 harg2 arg3 harg3 arg4 harg4 arg5 harg5 arg6 harg6 arg7 harg7 arg8 harg8 x0 x1 x2 h2 r (p.val / 256) (by omega) _).trans ?_
  congr 1
  show 256 * (p.val / 256) + p.val % 256 = p.val
  omega

end

end Cert.KernelIdeal.Val
-- ==== Proof.Bits.lean ====
/- The packed weights' bytes: the field a byte holds, and the eight-bit float the kernel makes of it. -/
module

public import proofs.«01_k».proof.Proof.Spec
public import Idealize.ShloMosaic.Lib.Pipeline.Value

@[expose] public section

set_option maxRecDepth 16384

noncomputable section

namespace Cert.Proof

open Idealize.ShloMosaic

/-- No two-bit field of the byte is 3. -/
def IsTern (b : BitVec 8) : Prop := (b &&& (b >>> 1)) &&& 0x55#8 = 0#8

/-- Field `f` of a byte, less one. -/
def ternE (f : ℕ) (b : BitVec 8) : ℝ := ((((b >>> (2 * f)) &&& 3#8) - 1#8).toInt : ℝ)

instance (b : BitVec 8) : Decidable (IsTern b) := inferInstanceAs (Decidable (_ = _))

/-- The three bytes a field becomes. -/
theorem field_cases : ∀ (b : BitVec 8) (f : Fin 4), IsTern b →
    (((~~~b) <<< (6 - 2 * f.val)) &&& 0xC0#8 = 0xC0#8 ∧ (((b >>> (2 * f.val)) &&& 3#8) - 1#8).toInt = -1)
    ∨ (((~~~b) <<< (6 - 2 * f.val)) &&& 0xC0#8 = 0x80#8 ∧ (((b >>> (2 * f.val)) &&& 3#8) - 1#8).toInt = 0)
    ∨ (((~~~b) <<< (6 - 2 * f.val)) &&& 0xC0#8 = 0x40#8 ∧ (((b >>> (2 * f.val)) &&& 3#8) - 1#8).toInt = 1) := by
  decide +kernel

theorem f8_C0 : Ideal.ofBits .fp8e4m3 0xC0#8 = ((-2 : ℝ) : EReal) := by
  simp [Ideal.ofBits, Ideal.ieee, Ideal.e4m3fn, -EReal.coe_mul]; norm_num
theorem f8_80 : Ideal.ofBits .fp8e4m3 0x80#8 = ((0 : ℝ) : EReal) := by
  simp [Ideal.ofBits, Ideal.ieee, Ideal.e4m3fn, -EReal.coe_mul]
theorem f8_40 : Ideal.ofBits .fp8e4m3 0x40#8 = ((2 : ℝ) : EReal) := by
  simp [Ideal.ofBits, Ideal.ieee, Ideal.e4m3fn, -EReal.coe_mul]; norm_num

/-- The float is twice the field. -/
theorem field_val (b : BitVec 8) (h : IsTern b) (f : ℕ) (hf : f < 4) :
    Ideal.ofBits .fp8e4m3 (((~~~b) <<< (6 - 2 * f)) &&& 0xC0#8) = ((2 * ternE f b : ℝ) : EReal) := by
  unfold ternE
  rcases field_cases b ⟨f, hf⟩ h with ⟨e, e'⟩ | ⟨e, e'⟩ | ⟨e, e'⟩
  · rw [e, e', f8_C0]; norm_num
  · rw [e, e', f8_80]; norm_num
  · rw [e, e', f8_40]; norm_num

/-- The precondition's word at a byte. -/
theorem tern_of_pre : ∀ b : BitVec 8,
    (b.setWidth 32 &&& (b.setWidth 32).sshiftRight 1) &&& 85#32 = 0#32 → IsTern b := by
  decide +kernel

/-- The reference's decoding of a byte. -/
theorem ref_field : ∀ (b : BitVec 8) (f : Fin 4),
    ((((b.setWidth 32).sshiftRight (2 * f.val)) &&& 3#32) - 1#32).setWidth 8 = ((b >>> (2 * f.val)) &&& 3#8) - 1#8 := by
  decide +kernel

/-- The sign of a word, from the parity of its bits. -/
theorem had_word : ∀ n : Fin 256,
    (IntOp.subi 1#32 (IntOp.muli 2#32 (IntOp.andi (IntOp.ctpop (BitVec.ofNat 32 n.val)) 1#32))).toInt
      = ∏ t ∈ Finset.range 8, if n.val.testBit t then (-1 : ℤ) else 1 := by
  decide +kernel

/-- The Hadamard matrix's entry, from the bits common to its two positions. -/
theorem had_val (u l : Fin 256) :
    (((IntOp.subi 1#32 (IntOp.muli 2#32 (IntOp.andi (IntOp.ctpop
      (IntOp.andi (BitVec.ofNat 32 u.val) (BitVec.ofNat 32 l.val))) 1#32))).toInt : ℝ) : EReal) = ((sgn 8 l.val u.val : ℝ) : EReal) := by
  have hlt : u.val &&& l.val < 256 := Nat.lt_of_le_of_lt Nat.and_le_left u.isLt
  have e : IntOp.andi (BitVec.ofNat 32 u.val) (BitVec.ofNat 32 l.val) = BitVec.ofNat 32 (u.val &&& l.val) := by
    apply BitVec.eq_of_toNat_eq
    unfold IntOp.andi
    have hu := u.isLt
    have hl := l.isLt
    rw [BitVec.toNat_and, BitVec.toNat_ofNat, BitVec.toNat_ofNat, BitVec.toNat_ofNat, Nat.mod_eq_of_lt (by omega),
      Nat.mod_eq_of_lt (by omega), Nat.mod_eq_of_lt (by omega)]
  rw [e]
  have h := had_word ⟨u.val &&& l.val, hlt⟩
  rw [h]
  congr 1
  unfold sgn
  rw [Int.cast_prod]
  refine Finset.prod_congr rfl fun t _ => ?_
  have hb : (u.val &&& l.val).testBit t = true ↔ (l.val / 2 ^ t % 2 = 1 ∧ u.val / 2 ^ t % 2 = 1) := by
    rw [Nat.testBit_and, Bool.and_eq_true, Nat.testBit_eq_decide_div_mod_eq, Nat.testBit_eq_decide_div_mod_eq,
      decide_eq_true_iff, decide_eq_true_iff]
    exact and_comm
  by_cases c : l.val / 2 ^ t % 2 = 1 ∧ u.val / 2 ^ t % 2 = 1
  · rw [if_pos (hb.2 c), if_pos c]; norm_num
  · rw [if_neg (fun h => c (hb.1 h)), if_neg c]; norm_num

end Cert.Proof
-- ==== Proof.KField.lean ====
/- The second kernel call's block: at each element the sum of products over the codes and the packed weights' fields. -/
module

public import proofs.«01_k».proof.Proof.KMat
public import proofs.«01_k».proof.Proof.KBlock
public import proofs.«01_k».proof.Proof.Bits
public import Idealize.ShloMosaic.Lib.Pointwise
public import Idealize.ShloMosaic.Lib.BitcastPair
public import Idealize.ShloMosaic.Lib.BitcastFour

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Proof

theorem ones_bit : ∀ i : ℕ, i < 32 → (4294967295#32 : BitVec 32).getLsbD i = true := by
  intro i hi; interval_cases i <;> rfl

theorem mask_bit : ∀ (b : Fin 4) (q : Fin 8), (3233857728#32 : BitVec 32).getLsbD (8 * b.val + q.val) = decide (6 ≤ q.val) := by
  decide +kernel

theorem mask8_bit : ∀ (q : Fin 8), (0xC0#8 : BitVec 8).getLsbD q.val = decide (6 ≤ q.val) := by
  decide +kernel

/-- The word's shifted complement, masked, at bit `q` of byte `b`. -/
theorem word_bit (w : BitVec 32) (x : BitVec 8) (b : ℕ) (hb : b < 4) (hx : ∀ q, q < 8 → w.getLsbD (8 * b + q) = x.getLsbD q)
    (s : ℕ) (hs : s ≤ 6) (q : ℕ) (hq : q < 8) :
    (IntOp.andi (IntOp.shli .vector (IntOp.xori w 4294967295#32) (BitVec.ofNat 32 s)) 3233857728#32).getLsbD (8 * b + q)
      = (((~~~x) <<< s) &&& 0xC0#8).getLsbD q := by
  unfold IntOp.andi IntOp.shli IntOp.xori
  have hsn : (BitVec.ofNat 32 s).toNat = s := by
    rw [BitVec.toNat_ofNat]; exact Nat.mod_eq_of_lt (by omega)
  rw [if_pos (by omega), BitVec.getLsbD_and, BitVec.getLsbD_and, mask_bit ⟨b, hb⟩ ⟨q, hq⟩, mask8_bit ⟨q, hq⟩]
  by_cases h6 : 6 ≤ q
  · have e : 8 * b + q - s = 8 * b + (q - s) := by omega
    rw [BitVec.shiftLeft_eq', hsn, BitVec.getLsbD_shiftLeft, BitVec.getLsbD_shiftLeft, BitVec.getLsbD_xor, ones_bit _ (by omega), e,
      hx _ (by omega), BitVec.getLsbD_not]
    have h1 : ¬ (8 * b + q < s) := by omega
    have h2 : ¬ (q < s) := by omega
    have h3 : 8 * b + q < 32 := by omega
    have h4 : q - s < 8 := by omega
    simp [h1, h2, h3, h4, hq]
  · simp [h6]

theorem field_byte (w : IVec S256x512 8) (f : ℕ) (u : Fin 256) (j : Fin 512) :
    bitcast S256x512 8
      (andi (shli (xori (bitcast S64x512 32 w bitcasts_S256x512_w8_S64x512_w32) (constantI S64x512 32 4294967295#32))
        (broadcast S64x512 (BitVec.ofNat 32 (6 - 2 * f)))) (broadcast S64x512 3233857728#32))
      bitcasts_S64x512_w32_S256x512_w8 (ix2 u j)
      = ((~~~(w (ix2 u j))) <<< (6 - 2 * f)) &&& 0xC0#8 := by
  apply BitVec.eq_of_getLsbD_eq
  intro q hq
  have hu := u.isLt
  rw [bitcast_getLsbD _ _ _ q hq (by norm_num)]
  have hrow : Shape.row S256x512 (ix2 u j) = u.val := rfl
  have hsrc : bitcasts_S64x512_w32_S256x512_w8.srcIdx (ix2 u j) ((Shape.row S256x512 (ix2 u j) * 8 + q) / 32)
      (fun a ha => (Nat.div_lt_iff_lt_mul (by norm_num)).2 (bitcasts_S64x512_w32_S256x512_w8.pos_lt (ix2 u j) q hq a ha))
      = ix2 (⟨u.val / 4, by omega⟩ : Fin 64) j := by
    funext a
    match a with
    | ⟨0, _⟩ =>
      refine Fin.ext ((bitcasts_S64x512_w32_S256x512_w8.srcIdx_row _ _ _ ⟨0, Nat.zero_lt_two⟩ rfl).trans ?_)
      rw [hrow]
      show (u.val * 8 + q) / 32 = u.val / 4
      omega
    | ⟨1, _⟩ => exact Fin.ext (bitcasts_S64x512_w32_S256x512_w8.srcIdx_other _ _ _ ⟨1, Nat.one_lt_two⟩ (by show ¬ 1 + 2 = 2; omega))
  rw [hsrc, hrow, show (u.val * 8 + q) % 32 = 8 * (u.val % 4) + q by omega]
  refine word_bit _ _ (u.val % 4) (by omega) (fun q' hq' => ?_) (6 - 2 * f) (by omega) q hq
  have e := bitcast_8_32_getLsbD_ix2 w bitcasts_S256x512_w8_S64x512_w32 ⟨u.val / 4, by omega⟩ j (8 * (u.val % 4) + q') (by omega) u
    (by show u.val = 4 * (u.val / 4) + (8 * (u.val % 4) + q') / 8; omega)
  rw [show (8 * (u.val % 4) + q') % 8 = q' by omega] at e
  exact e

theorem mField_apply (w : IVec S256x512 8) (f : ℕ) (hf : f < 4) (u : Fin 256) (j : Fin 512) (h : IsTern (w (ix2 u j))) :
    mField (F := Ideal) w f (ix2 u j) = ((2 * ternE f (w (ix2 u j)) : ℝ) : EReal) := by
  unfold mField
  refine Eq.trans ?_ (field_val (w (ix2 u j)) h f hf)
  exact congrArg (Ideal.ofBits .fp8e4m3) (field_byte w f u j)

theorem mPart_apply (x : ℕ → FVec Ideal S128x256 .fp8e4m3) (w : ℕ → IVec S256x512 8) (k : ℕ) (r : Fin 128) (j : Fin 512) :
    mPart x w k (ix2 r j) = 0 + ∑ u : Fin 256, x k (ix2 r u) * mField (F := Ideal) (w k) (k % 4) (ix2 u j) := by
  unfold mPart
  rw [shapeCast_self]
  generalize mField (F := Ideal) (w k) (k % 4) = y
  pointwise

theorem mAcc_apply (x : ℕ → FVec Ideal S128x256 .fp8e4m3) (w : ℕ → IVec S256x512 8) (k : ℕ) (r : Fin 128) (j : Fin 512) :
    mAcc x w k (ix2 r j) = chain (fun k => mPart x w k (ix2 r j)) k := by
  induction k with
  | zero => rfl
  | succ k ih => show mAcc x w k (ix2 r j) + _ = chain _ k + _; rw [ih]

theorem mOut_apply (acc : FVec Ideal S128x512 .f32) (s : FVec Ideal S128x1 .f32) (ws : Ideal .f32) (r : Fin 128) (j : Fin 512) :
    mOut acc s ws (ix2 r j) = acc (ix2 r j) * ((1 / 2 : ℝ) : EReal) * s (ix2 r 0) * ws := by
  rw [← csthalf_eq]
  unfold mOut
  rw [shapeCast_self]
  pointwise

theorem mxRect_idx (k : ℕ) (hk : k < 64) (r : Fin 128) (u : Fin 256) :
    (mxRect k).idx (ix2 r u) = ix2 r (⟨4096 * (k % 4) + (256 * (k / 4) + u.val), by have := u.isLt; omega⟩ : Fin 16384) := by
  funext a
  match a with
  | ⟨0, _⟩ => exact Fin.ext (show 0 + 1 * r.val = r.val by omega)
  | ⟨1, _⟩ => exact Fin.ext (show 4096 * (k % 4) + 256 * (k / 4 % 16) + 1 * u.val = 4096 * (k % 4) + (256 * (k / 4) + u.val) by omega)

theorem mwRect_idx (k : ℕ) (hk : k < 64) (u : Fin 256) (j : Fin 512) :
    (mwRect k).idx (ix2 u j) = ix2 (⟨256 * (k / 4) + u.val, by have := u.isLt; omega⟩ : Fin 4096) j := by
  funext a
  match a with
  | ⟨0, _⟩ => exact Fin.ext (show 256 * (k / 4 % 16) + 1 * u.val = 256 * (k / 4) + u.val by omega)
  | ⟨1, _⟩ => exact Fin.ext (show 0 + 1 * j.val = j.val by omega)

theorem chain_congr (p p' : ℕ → EReal) (k : ℕ) (h : ∀ i, i ≤ k → p i = p' i) : chain p k = chain p' k := by
  induction k with
  | zero => exact h 0 le_rfl
  | succ k ih => show chain p k + p (k + 1) = chain p' k + p' (k + 1); rw [ih (fun i hi => h i (by omega)), h (k + 1) le_rfl]

/-- The product at an element: the codes `q` against the fields of the bytes `b`, field by field, scaled. -/
def yVal (q : ℕ → ℝ) (b : ℕ → BitVec 8) (s ws : EReal) : EReal :=
  chain (fun f => 0 + ∑ u : Fin 4096, ((q (4096 * f + u) : ℝ) : EReal) * ((ternE f (b u) : ℝ) : EReal)) 3 * s * ws

theorem mOut_val (x : ℕ → FVec Ideal S128x256 .fp8e4m3) (w : ℕ → IVec S256x512 8) (s : FVec Ideal S128x1 .f32) (ws : Ideal .f32)
    (r : Fin 128) (j : Fin 512) (q : ℕ → ℝ) (b : ℕ → BitVec 8)
    (hx : ∀ k, k < 64 → ∀ u : Fin 256, x k (ix2 r u) = ((q (4096 * (k % 4) + (256 * (k / 4) + u.val)) : ℝ) : EReal))
    (hw : ∀ k, k < 64 → ∀ u : Fin 256, w k (ix2 u j) = b (256 * (k / 4) + u.val))
    (ht : ∀ u : Fin 4096, IsTern (b u.val)) :
    mOut (mAcc x w 63) s ws (ix2 r j) = yVal q b (s (ix2 r 0)) ws := by
  rw [mOut_apply, mAcc_apply]
  unfold yVal
  rw [← acc_eq q (fun f u => ternE f (b u))]
  refine congrArg (fun z => z * ((1 / 2 : ℝ) : EReal) * s (ix2 r 0) * ws) ?_
  refine chain_congr _ _ 63 fun k hk => ?_
  rw [mPart_apply]
  refine congrArg (0 + ·) ?_
  refine Finset.sum_congr rfl fun u _ => ?_
  have hu := u.isLt
  have h := mField_apply (w k) (k % 4) (Nat.mod_lt _ (by norm_num)) u j
    (by rw [hw k (by omega)]; exact ht ⟨256 * (k / 4) + u.val, by omega⟩)
  rw [h, hx k (by omega), hw k (by omega)]

theorem out_y (c : Dev nD) (i : grid1.Coords) (arg1 : Memref sig .tc .vmem S128x16384 .fp8e4m3) (harg1 : arg1.IsWhole) (arg2 : Memref sig .tc .vmem S128x1 .f32) (harg2 : arg2.IsWhole) (arg3 : Memref sig .tc .smem S1 .f32) (harg3 : arg3.IsWhole) (arg4 : Memref sig .tc .vmem S4096x512 .i8) (harg4 : arg4.IsWhole) (arg5 : Memref sig .tc .vmem S128x512 .bf16) (harg5 : arg5.IsWhole)
    (x0 : Vec Ideal S128x16384 .fp8e4m3) (x1 : Vec Ideal S128x1 .f32) (x2 : Vec Ideal S1 .f32) (x3 : Vec Ideal S4096x512 .i8)
    (r : Fin 128) (j : Fin 512) (q : ℕ → ℝ) (hq : ∀ p : Fin 16384, x0 (ix2 r p) = ((q p.val : ℝ) : EReal))
    (b : ℕ → BitVec 8) (hb : ∀ u : Fin 4096, x3 (ix2 u j) = b u.val) (ht : ∀ u : Fin 4096, IsTern (b u.val)) :
    out1_A_4 (F := Ideal) c i arg1 harg1 arg2 harg2 arg3 harg3 arg4 harg4 arg5 harg5 x0 x1 x2 x3 (ix2 r j)
      = yVal q b (x1 (ix2 r 0)) (x2 (ix1 0)) := by
  unfold out1_A_4
  rw [View.read_writes_junk_eq_canon, run1_eq]
  have e := View.canon_cons_emb (Val := Elt Ideal) (e := .bf16) (Rect.unit (s := S128x512) ![0, 0] ![128, 512] inb_S128x512_S128x512_0_0)
    (mOut (F := Ideal) (mAcc (fun k => View.readAt (Elt Ideal) arg1.view (mxRect k).toLoadRect (harg1.unread x0))
                (fun k => View.readAt (Elt Ideal) arg4.view (mwRect k).toLoadRect (harg4.unread x3)) 63)
            (View.readAt (Elt Ideal) arg2.view (Rect.unit ![0, 0] S128x1.size inb_S128x1_S128x1_0_0).toLoadRect (harg2.unread x1))
            (View.readAt (Elt Ideal) arg3.view (Rect.unit ![0] S1.size inb_S1_S1_0).toLoadRect (harg3.unread x2)
              (Shape.Idx.first (by decide)))) [] (ix2 r j)
  rw [show (Rect.unit (s := S128x512) ![0, 0] ![128, 512] inb_S128x512_S128x512_0_0).emb (ix2 r j) = ix2 r j from
    unit_zero_idx (R := 128) (C := 512) _ r j] at e
  refine e.trans ((mOut_val _ _ _ _ r j q b (fun k hk u => ?_) (fun k hk u => ?_) ht).trans ?_)
  · exact (harg1.readAt_unread x0 _ _).trans ((congrArg x0 (mxRect_idx k hk r u)).trans (hq _))
  · exact (harg4.readAt_unread x3 _ _).trans ((congrArg x3 (mwRect_idx k hk u j)).trans (hb _))
  · exact congr (congrArg (yVal q b) ((harg2.readAt_unread x1 _ _).trans (congrArg x1 (unit_zero_idx (R := 128) (C := 1) _ r 0))))
      ((harg3.readAt_unread x2 _ _).trans (congrArg x2 (by
        funext a
        match a with
        | ⟨0, _⟩ => rfl)))

end Cert.KernelIdeal.Val
-- ==== Proof.RefBase.lean ====
/- The reference's call: float operations and rows. -/
module

public import proofs.«01_k».proof.Proof.KField
public import proofs.«01_k».proof.Proof.Gen.ReferenceIdeal.Frame
public import Idealize.ShloMosaic.Lib.Pipeline.ValueKit.Geometry

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx ix2_eta)

theorem fold_max_bot {α : Type} (s : Finset α) (f : α → EReal) : Finset.fold max ⊥ f s = s.sup f := rfl
theorem absf_eq (a : Ideal .f32) : (FloatOps.absf a : Ideal .f32) = max (a : EReal) (-(a : EReal)) := rfl
theorem fptosi_eq (a : Ideal .f32) : FloatOps.fptosi 8 a = Ideal.fptosi 8 a := rfl
theorem sitofp_eq (v : BitVec 8) : (FloatOps.sitofp .fp8e4m3 v : Ideal .fp8e4m3) = (((v.toInt : ℝ) : EReal)) := rfl

/-- `h` is the row `r` of the matrix `x`. -/
def IsRow (x : Vec Ideal S128x16384 .f32) (r : Fin 128) (h : ℕ → EReal) : Prop := ∀ p : Fin 16384, x (ix2 r p) = h p.val

theorem pay2_eq (x : Vec Ideal S128x16384 .f32) : k0_pay2 x = x := by
  unfold k0_pay2
  exact shapeCast_self x _

end Cert.ReferenceIdeal.Val
-- ==== Proof.RefPay3.lean ====
/- The reference's call: the scales. -/
module

public import proofs.«01_k».proof.Proof.RefBase
public import Idealize.ShloMosaic.Lib.Pipeline.ValueKit.Geometry

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx ix2_eta)

/-- A row's greatest absolute value. -/
def amaxF (x : FVec Ideal S128x16384 .f32) : FVec Ideal S128 .f32 :=
  multiReduction .maximumf [1] S128 (absf x) 0xFF800000#32 reduces_S128x16384_S128 (.inl rfl) rfl

theorem amaxF_fold (x : FVec Ideal S128x16384 .f32) (r : Fin 128) :
    amaxF x (ix1 r) = Finset.fold max (Ideal.ofBits FTy.f32 4286578688#32) (fun p => (FloatOps.absf (x (ix2 r p)) : Ideal .f32)) Finset.univ := by
  unfold amaxF
  pointwise

/-- A row's scale. -/
def scaleF (mx : FVec Ideal S128 .f32) : FVec Ideal S128x1 .f32 :=
  select (cmpf .oeq (shapeCast S128x1 mx shapeCasts_S128_S128x1) (broadcast S128x1 (Scalar.ofBits .f32 0x00000000#32)))
    (broadcast S128x1 (Scalar.ofBits .f32 0x3F800000#32))
    (divf (shapeCast S128x1 mx shapeCasts_S128_S128x1) (broadcast S128x1 (Scalar.ofBits .f32 0x40E00000#32)))

theorem scaleF_apply (mx : FVec Ideal S128 .f32) (r : Fin 128) : scaleF mx (ix2 r 0) = scaleOf (mx (ix1 r)) := by
  unfold scaleOf
  rw [← cst7_eq]
  unfold scaleF
  pointwise

theorem pay3_eq (x : Vec Ideal S128x16384 .f32) : k0_pay3 x = scaleF (amaxF (k0_pay2 x)) := by
  unfold k0_pay3 scaleF amaxF
  rfl

theorem fold_amax (f : Fin 16384 → EReal) (h : ℕ → EReal) (e : ∀ p : Fin 16384, f p = max (h p.val) (-(h p.val))) :
    Finset.fold max ⊥ f Finset.univ = amaxE h := by
  rw [fold_max_bot]
  unfold amaxE
  exact congrArg (Finset.sup Finset.univ) (funext e)

theorem amaxF_apply (x : FVec Ideal S128x16384 .f32) (r : Fin 128) (h : ℕ → EReal) (hx : IsRow x r h) : amaxF x (ix1 r) = amaxE h := by
  refine (amaxF_fold x r).trans ?_
  rw [show Ideal.ofBits FTy.f32 4286578688#32 = ⊥ from cstbot_eq]
  exact fold_amax _ h fun p => by rw [absf_eq, hx p]

theorem pay3_apply (x : Vec Ideal S128x16384 .f32) (r : Fin 128) (h : ℕ → EReal) (hx : IsRow x r h) :
    k0_pay3 x (ix2 r 0) = sclE h := by
  unfold sclE
  exact (congrFun (pay3_eq x) _).trans ((scaleF_apply _ r).trans (congrArg scaleOf (by rw [pay2_eq]; exact amaxF_apply x r h hx)))

end Cert.ReferenceIdeal.Val
-- ==== Proof.RefPay4.lean ====
/- The reference's call: the codes. -/
module

public import proofs.«01_k».proof.Proof.RefBase
public import Idealize.ShloMosaic.Lib.Pipeline.ValueKit.Geometry

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx ix2_eta)

/-- A row's quotients by its scale, rounded and clamped. -/
def codesF (x : FVec Ideal S128x16384 .f32) (s : FVec Ideal S128x1 .f32) : IVec S128x16384 8 :=
  fptosi 8 (minimumf (broadcast S128x16384 (Scalar.ofBits .f32 0x40E00000#32)) (maximumf (broadcast S128x16384 (Scalar.ofBits .f32 0xC0E00000#32))
    (roundeven (divf x (broadcastTo S128x16384 s broadcasts_S128x1_S128x16384)))))

theorem codesF_apply (x : FVec Ideal S128x16384 .f32) (s : FVec Ideal S128x1 .f32) (r : Fin 128) (p : Fin 16384) :
    codesF x s (ix2 r p) = FloatOps.fptosi 8 (min (Ideal.ofBits .f32 0x40E00000#32) (max (Ideal.ofBits .f32 0xC0E00000#32)
      (Ideal.liftRound Ideal.roundHalfEven (Ideal.div (x (ix2 r p)) (s (ix2 r 0)))))) := by
  unfold codesF
  pointwise

theorem pay4_eq (x : Vec Ideal S128x16384 .f32) : k0_pay4 x = codesF (k0_pay2 x) (k0_pay3 x) := by
  unfold k0_pay4 codesF
  rfl

theorem pay4_apply (x : Vec Ideal S128x16384 .f32) (r : Fin 128) (p : Fin 16384) :
    k0_pay4 x (ix2 r p) = Ideal.fptosi 8 (clipR (Ideal.div (x (ix2 r p)) (k0_pay3 x (ix2 r 0)))) := by
  unfold clipR
  rw [← cst7_eq, ← cstm7_eq]
  exact (congrFun (pay4_eq x) _).trans ((codesF_apply _ _ r p).trans (by rw [pay2_eq, fptosi_eq]))

end Cert.ReferenceIdeal.Val
-- ==== Proof.RefPay1.lean ====
/- The reference's call: the product. -/
module

public import proofs.«01_k».proof.Proof.RefBase
public import Idealize.ShloMosaic.Lib.Pipeline.ValueKit.Geometry

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx ix2_eta)

/-- A block of 4096 columns against a weight array. -/
def partF (o : ℕ) (h : S128x16384.Slices ![0, o] S128x4096) (v : FVec Ideal S128x16384 .fp8e4m3) (w : IVec S4096x7168 8) : FVec Ideal S128x7168 .f32 :=
  matmul dot_S128x4096_S4096x7168_S128x7168_1_0_0_1_n_n none (extractStridedSlice S128x4096 ![0, o] v h) (sitofp .fp8e4m3 w) (constant S128x7168 .f32 0x00000000#32)

theorem mm_apply (a : FVec Ideal S128x4096 .fp8e4m3) (b : FVec Ideal S4096x7168 .fp8e4m3) (r : Fin 128) (j : Fin 7168) :
    matmul dot_S128x4096_S4096x7168_S128x7168_1_0_0_1_n_n none a b (constant S128x7168 .f32 0x00000000#32) (ix2 r j)
      = 0 + ∑ u : Fin 4096, (a (ix2 r u) : EReal) * b (ix2 u j) := by
  pointwise

theorem partF_apply (o : ℕ) (h : S128x16384.Slices ![0, o] S128x4096) (v : FVec Ideal S128x16384 .fp8e4m3) (w : IVec S4096x7168 8) (ho : o + 4096 ≤ 16384)
    (r : Fin 128) (j : Fin 7168) :
    partF o h v w (ix2 r j) = 0 + ∑ u : Fin 4096, (v (ix2 r ⟨o + u.val, by have := u.isLt; omega⟩) : EReal) * (((w (ix2 u j)).toInt : ℝ) : EReal) := by
  unfold partF
  refine (mm_apply _ _ r j).trans (congrArg (0 + ·) (Finset.sum_congr rfl fun u _ => ?_))
  refine congr (congrArg (fun a b : EReal => a * b) ?_) rfl
  refine extractStridedSlice_apply _ v h (ix2 r u) _ fun a => ?_
  match a with
  | ⟨0, _⟩ => exact (Nat.zero_add _).symm
  | ⟨1, _⟩ => rfl

/-- The four blocks' products added, times the row's scale and the weights' scale. -/
def prodF (s : FVec Ideal S128x1 .f32) (v : FVec Ideal S128x16384 .fp8e4m3) (w0 w1 w2 w3 : IVec S4096x7168 8) (ws : Ideal .f32) : FVec Ideal S128x7168 .bf16 :=
  truncf .bf16 (mulf (mulf (addf (addf (addf (partF 0 slices_S128x16384_o0_0_S128x4096 v w0) (partF 4096 slices_S128x16384_o0_4096_S128x4096 v w1))
      (partF 8192 slices_S128x16384_o0_8192_S128x4096 v w2)) (partF 12288 slices_S128x16384_o0_12288_S128x4096 v w3))
    (broadcastTo S128x7168 s broadcasts_S128x1_S128x7168)) (broadcast S128x7168 ws)) bitsLt_bf16_f32

theorem prodF_apply (s : FVec Ideal S128x1 .f32) (v : FVec Ideal S128x16384 .fp8e4m3) (w0 w1 w2 w3 : IVec S4096x7168 8) (ws : Ideal .f32) (r : Fin 128) (j : Fin 7168) :
    prodF s v w0 w1 w2 w3 ws (ix2 r j) = (((partF 0 slices_S128x16384_o0_0_S128x4096 v w0 (ix2 r j) + partF 4096 slices_S128x16384_o0_4096_S128x4096 v w1 (ix2 r j)
      + partF 8192 slices_S128x16384_o0_8192_S128x4096 v w2 (ix2 r j) + partF 12288 slices_S128x16384_o0_12288_S128x4096 v w3 (ix2 r j)) * s (ix2 r 0) * ws : EReal)) := by
  unfold prodF
  generalize partF 0 slices_S128x16384_o0_0_S128x4096 v w0 = p0
  generalize partF 4096 slices_S128x16384_o0_4096_S128x4096 v w1 = p1
  generalize partF 8192 slices_S128x16384_o0_8192_S128x4096 v w2 = p2
  generalize partF 12288 slices_S128x16384_o0_12288_S128x4096 v w3 = p3
  pointwise

theorem pay1_eq (x : Vec Ideal S128x16384 .f32) (w0 w1 w2 w3 : Vec Ideal S4096x7168 .i8) (ws : Ideal .f32) :
    k0_pay1 (k0_pay3 x) (k0_pay5 x) (k0_pay6 x w0 w1) (k0_pay7 w2) (k0_pay8 x) (constant S128x7168 .f32 0x00000000#32) w3 ws
      = prodF (k0_pay3 x) (k0_pay5 x) w0 w1 w2 w3 ws := by
  unfold k0_pay1 k0_pay6 k0_pay7 k0_pay8 prodF partF
  simp only [shapeCast_self]

end Cert.ReferenceIdeal.Val
-- ==== Proof.RefBlock.lean ====
/- The reference's call: scales, codes and products of the transformed rows. -/
module

public import proofs.«01_k».proof.Proof.RefPay3
public import proofs.«01_k».proof.Proof.RefPay4
public import proofs.«01_k».proof.Proof.RefPay1
public import Idealize.ShloMosaic.Lib.Pipeline.ValueKit.Geometry

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx ix2_eta)

theorem codes_apply (x : Vec Ideal S128x16384 .f32) (r : Fin 128) (h : ℕ → EReal) (hx : IsRow x r h) (p : Fin 16384) :
    k0_pay4 x (ix2 r p) = Ideal.fptosi 8 (qE h p.val) := by
  rw [pay4_apply, pay3_apply x r h hx, hx p]
  rfl

theorem pay5_apply (x : Vec Ideal S128x16384 .f32) (r : Fin 128) (h : ℕ → EReal) (hx : IsRow x r h) (p : Fin 16384) :
    k0_pay5 x (ix2 r p) = qE h p.val := by
  have e := codes_apply x r h hx p
  unfold k0_pay5
  generalize k0_pay4 x = v at e
  have e2 : (sitofp .fp8e4m3 v : FVec Ideal S128x16384 .fp8e4m3) (ix2 r p) = (((v (ix2 r p)).toInt : ℝ) : EReal) := by
    pointwise
    rw [sitofp_eq]
  rw [e2, e]
  exact fptosi_clipR _

end Cert.ReferenceIdeal.Val
-- ==== Proof.KArr.lean ====
/- What the two kernel calls leave in their arrays. -/
module

public import proofs.«01_k».proof.Proof.KField
public import Idealize.ShloMosaic.Lib.Pipeline.ValueKit.Geometry

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Proof

variable (V : (c : Dev nD) → (b : Ref sig .tc) → Buf (Elt Ideal) ((c : Thread nD τ).loc b)) (c : Dev nD)

/-- Row `r` of the transformed array. -/
abbrev kRow (x : Vec Ideal S128x16384 .bf16) (g : Vec Ideal S1x16384 .f32) (r : Fin 128) : ℕ → EReal :=
  hadE (fun u => x (ix2 r u)) (fun u => g (ix2 0 u))

theorem e0_0 : ∀ t : Fin cfg0.N, win0_0.index t = ![(grid0.coords t 0).val, 0] := (by decide +kernel : ∀ t : Fin grid0.N, _)
theorem e0_1 : ∀ t : Fin cfg0.N, win0_1.index t = ![0, 0] := (by decide +kernel : ∀ t : Fin grid0.N, _)
theorem e0_2 : ∀ t : Fin cfg0.N, win0_2.index t = ![0, 0] := (by decide +kernel : ∀ t : Fin grid0.N, _)
theorem e0_3 : ∀ t : Fin cfg0.N, win0_3.index t = ![(grid0.coords t 0).val, 0] := (by decide +kernel : ∀ t : Fin grid0.N, _)
theorem e0_4 : ∀ t : Fin cfg0.N, win0_4.index t = ![(grid0.coords t 0).val, 0] := (by decide +kernel : ∀ t : Fin grid0.N, _)
theorem e0_5 : ∀ t : Fin cfg0.N, win0_5.index t = ![(grid0.coords t 0).val, 0] := (by decide +kernel : ∀ t : Fin grid0.N, _)

theorem in0_0 (t : Fin cfg0.N) (r : Fin 32) (u : Fin 16384) (R : Fin 128) (hR : R.val = (grid0.coords t 0).val * 32 + r.val) :
    (iblk0 V c 0 t : Vec Ideal S32x16384 .bf16) (ix2 r u) = (V c main_v0 : Vec Ideal S128x16384 .bf16) (ix2 R u) := by
  blk_simp [iblk0]
  refine congrArg (V c main_v0) ?_
  blk_ext [e0_0]

theorem in0_1 (t : Fin cfg0.N) (u : Fin 16384) :
    (iblk0 V c 1 t : Vec Ideal S1x16384 .f32) (ix2 0 u) = (V c main_v15 : Vec Ideal S1x16384 .f32) (ix2 0 u) := by
  blk_simp [iblk0]
  refine congrArg (V c main_v15) ?_
  blk_ext [e0_1]

theorem in0_2 (t : Fin cfg0.N) (u l : Fin 256) :
    (iblk0 V c 2 t : Vec Ideal S256x256 .bf16) (ix2 u l) = (V c main_v14 : Vec Ideal S256x256 .bf16) (ix2 u l) := by
  blk_simp [iblk0]
  refine congrArg (V c main_v14) ?_
  blk_ext [e0_2]

theorem had0 (h2 : IsHad (V c main_v14)) (t : Fin cfg0.N) : IsHad (iblk0 V c 2 t) :=
  fun u l => (in0_2 V c t u l).trans (h2 u l)

theorem row0 (t : Fin cfg0.N) (r : Fin 32) (R : Fin 128) (hR : R.val = (grid0.coords t 0).val * 32 + r.val) :
    hRow (iblk0 V c 0 t) (iblk0 V c 1 t) r = kRow (V c main_v0) (V c main_v15) R :=
  congr (congrArg hadE (funext fun u => in0_0 V c t r u R hR)) (funext fun u => in0_1 V c t u)

theorem arr0_codes (h2 : IsHad (V c main_v14)) :
    (dat0 (F := Ideal) V c).arrAt 3 cfg0.N = fun i : S128x16384.Idx => Ideal.fptosi 8 (qE (kRow (V c main_v0) (V c main_v15) (i 0)) (i 1).val) := by
  refine (dat0 (F := Ideal) V c).arrAt_eq_of_covers 3 _ (by decide +kernel) fun t hf y => ?_
  blk_simp
  rw [after0_3]
  unfold outsAt0
  rw [← ix2_eta y]
  refine (out_codes c _ _ _ _ _ _ _ _ _ _ _ _ _ _ _ _ _ _ _ _ (had0 V c h2 t) (y 0) (y 1)).trans ?_
  rw [row0 V c t (y 0) ((win0_3.blk t).view.emb y 0) (by blk_simp [e0_3])]
  congr 2
  simp [e0_3]

theorem arr0_x8 (h2 : IsHad (V c main_v14)) :
    (dat0 (F := Ideal) V c).arrAt 4 cfg0.N = fun i : S128x16384.Idx => qE (kRow (V c main_v0) (V c main_v15) (i 0)) (i 1).val := by
  refine (dat0 (F := Ideal) V c).arrAt_eq_of_covers 4 _ (by decide +kernel) fun t hf y => ?_
  blk_simp
  rw [after0_4]
  unfold outsAt0
  rw [← ix2_eta y]
  refine (out_x8 c _ _ _ _ _ _ _ _ _ _ _ _ _ _ _ _ _ _ _ _ (had0 V c h2 t) (y 0) (y 1)).trans ?_
  rw [row0 V c t (y 0) ((win0_4.blk t).view.emb y 0) (by blk_simp [e0_4])]
  congr 1
  simp [e0_4]

theorem arr0_scale (h2 : IsHad (V c main_v14)) :
    (dat0 (F := Ideal) V c).arrAt 5 cfg0.N = fun i : S128x1.Idx => sclE (kRow (V c main_v0) (V c main_v15) (i 0)) := by
  refine (dat0 (F := Ideal) V c).arrAt_eq_of_covers 5 _ (by decide +kernel) fun t hf y => ?_
  blk_simp
  rw [after0_5]
  unfold outsAt0
  rw [← ix2_eta y]
  have h1 : y 1 = (0 : Fin 1) := Subsingleton.elim (α := Fin 1) _ _
  rw [h1]
  refine (out_scale c _ _ _ _ _ _ _ _ _ _ _ _ _ _ _ _ _ _ _ _ (had0 V c h2 t) (y 0)).trans ?_
  refine congrArg sclE (row0 V c t (y 0) _ ?_)
  blk_simp [e0_5]

theorem e1_0 : ∀ t : Fin cfg1.N, win1_0.index t = ![0, 0] := (by decide +kernel : ∀ t : Fin grid1.N, _)
theorem e1_1 : ∀ t : Fin cfg1.N, win1_1.index t = ![0, 0] := (by decide +kernel : ∀ t : Fin grid1.N, _)
theorem e1_2 : ∀ t : Fin cfg1.N, win1_2.index t = ![0] := (by decide +kernel : ∀ t : Fin grid1.N, _)
theorem e1_3 : ∀ t : Fin cfg1.N, win1_3.index t = ![0, (grid1.coords t 0).val] := (by decide +kernel : ∀ t : Fin grid1.N, _)
theorem e1_4 : ∀ t : Fin cfg1.N, win1_4.index t = ![0, (grid1.coords t 0).val] := (by decide +kernel : ∀ t : Fin grid1.N, _)

theorem in1_0 (t : Fin cfg1.N) (r : Fin 128) (u : Fin 16384) :
    (iblk1 V c 0 t : Vec Ideal S128x16384 .fp8e4m3) (ix2 r u) = (V c main_v16_1 : Vec Ideal S128x16384 .fp8e4m3) (ix2 r u) := by
  blk_simp [iblk1]
  refine congrArg (V c main_v16_1) ?_
  blk_ext [e1_0]

theorem in1_1 (t : Fin cfg1.N) (r : Fin 128) :
    (iblk1 V c 1 t : Vec Ideal S128x1 .f32) (ix2 r 0) = (V c main_v16_2 : Vec Ideal S128x1 .f32) (ix2 r 0) := by
  blk_simp [iblk1]
  refine congrArg (V c main_v16_2) ?_
  blk_ext [e1_1]

theorem in1_2 (t : Fin cfg1.N) :
    (iblk1 V c 2 t : Vec Ideal S1 .f32) (ix1 0) = (V c main_arg3 : Vec Ideal S1 .f32) (ix1 0) := by
  blk_simp [iblk1]
  refine congrArg (V c main_arg3) ?_
  blk_ext [e1_2]

theorem in1_3 (t : Fin cfg1.N) (u : Fin 4096) (j : Fin 512) (J : Fin 7168) (hJ : J.val = (grid1.coords t 0).val * 512 + j.val) :
    (iblk1 V c 3 t : Vec Ideal S4096x512 .i8) (ix2 u j) = (V c main_arg2 : Vec Ideal S4096x7168 .i8) (ix2 u J) := by
  blk_simp [iblk1]
  refine congrArg (V c main_arg2) ?_
  blk_ext [e1_3]

/-- Row `r` of an array of reals, and column `j` of the packed weights, by position. -/
def wCol (w : Vec Ideal S4096x7168 .i8) (j : Fin 7168) (u : ℕ) : BitVec 8 := if h : u < 4096 then w (ix2 ⟨u, h⟩ j) else 0#8

theorem arr1_y (q : Fin 128 → ℕ → ℝ) (hq : ∀ (r : Fin 128) (p : Fin 16384), (V c main_v16_1 : Vec Ideal S128x16384 .fp8e4m3) (ix2 r p) = ((q r p.val : ℝ) : EReal))
    (ht : ∀ (u : Fin 4096) (j : Fin 7168), IsTern ((V c main_arg2 : Vec Ideal S4096x7168 .i8) (ix2 u j))) :
    (dat1 (F := Ideal) V c).arrAt 4 cfg1.N = fun i : S128x7168.Idx =>
      yVal (q (i 0)) (wCol (V c main_arg2) (i 1)) ((V c main_v16_2 : Vec Ideal S128x1 .f32) (ix2 (i 0) 0)) ((V c main_arg3 : Vec Ideal S1 .f32) (ix1 0)) := by
  refine (dat1 (F := Ideal) V c).arrAt_eq_of_covers 4 _ (by decide +kernel) fun t hf y => ?_
  have h0 : ((win1_4.blk t).view.emb y 0 : Fin 128) = y 0 := by
    apply Fin.ext; blk_simp [e1_4]
  have h1 : ((win1_4.blk t).view.emb y 1 : Fin 7168).val = (grid1.coords t 0).val * 512 + (y 1).val := by
    blk_simp [e1_4]
  generalize hR : ((win1_4.blk t).view.emb y 0 : Fin 128) = R at h0
  generalize hJ : ((win1_4.blk t).view.emb y 1 : Fin 7168) = J at h1
  blk_simp
  rw [after1_4]
  unfold outsAt1
  rw [← ix2_eta y]
  refine (out_y c _ _ _ _ _ _ _ _ _ _ _ _ _ _ _ (y 0) (y 1) (q R) (fun p => (in1_0 V c t (y 0) p).trans (by rw [h0]; exact hq _ p))
    (wCol (V c main_arg2) J) (fun u => ?_) (fun u => ?_)).trans ?_
  · unfold wCol
    rw [dif_pos u.isLt]
    exact in1_3 V c t u (y 1) J h1
  · unfold wCol
    rw [dif_pos u.isLt]
    exact ht u J
  · exact congr (congrArg (yVal (q R) (wCol (V c main_arg2) J)) ((in1_1 V c t (y 0)).trans (by rw [h0]))) (in1_2 V c t)

end Cert.KernelIdeal.Val
-- ==== Proof.KRun.lean ====
/- The kernel's run with its three results at the contents the last boundary gives them. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_v19) = W4 m ρ c (Proc.devRef .tc main_v19)
      ∧ r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v18 (by decide)), h c _ (mem_uc main_v19 (by decide)), h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Val
-- ==== Proof.KHost.lean ====
/- The kernel's results, from its arguments. -/
module

public import proofs.«01_k».proof.Proof.KArr
public import proofs.«01_k».proof.Proof.KRun
public import Idealize.ShloMosaic.Lib.StableHlo.RunRead
public import Idealize.ShloMosaic.Lib.IdealHost

@[expose] public section

set_option maxRecDepth 16384

noncomputable section

namespace Cert.KernelIdeal.Val

open Idealize.ShloMosaic Idealize.ShloMosaic.TcCoe Idealize.ShloMosaic.Tactic Idealize.ShloMosaic.StableHlo
open Cert.KernelIdeal Cert.KernelIdeal.Gen Cert.Proof

/-- Row `r` of the transform of the arguments. -/
abbrev aRow (x : Vec Ideal S1x128x16384 .bf16) (g : Vec Ideal S16384 .f32) (r : Fin 128) : ℕ → EReal :=
  hadE (fun u => x (ix3 0 r u)) (fun u => g (ix1 u))

/-- A row's codes as reals. -/
def qR (h : ℕ → EReal) (p : ℕ) : ℝ := (qE h p).toReal

theorem qR_coe (h : ℕ → EReal) (p : ℕ) : ((qR h p : ℝ) : EReal) = qE h p := by
  unfold qR qE
  obtain ⟨n, _, _, e⟩ := clipR_int (Ideal.div (h p) (sclE h))
  rw [e, EReal.toReal_coe]

/-- The three results. -/
def yOut (x : Vec Ideal S1x128x16384 .bf16) (g : Vec Ideal S16384 .f32) (w : Vec Ideal S4096x7168 .i8) (ws : Vec Ideal S1 .f32) :
    Vec Ideal S128x7168 .bf16 := fun i : S128x7168.Idx =>
  yVal (qR (aRow x g (i 0))) (wCol w (i 1)) (sclE (aRow x g (i 0))) (ws (ix1 0))

def codesOut (x : Vec Ideal S1x128x16384 .bf16) (g : Vec Ideal S16384 .f32) : Vec Ideal S128x16384 .i8 := fun i : S128x16384.Idx =>
  Ideal.fptosi 8 (qE (aRow x g (i 0)) (i 1).val)

def scaleOut (x : Vec Ideal S1x128x16384 .bf16) (g : Vec Ideal S16384 .f32) : Vec Ideal S128x1 .f32 := fun i : S128x1.Idx =>
  sclE (aRow x g (i 0))

variable (V : Valuation τ sig (Elt Ideal))

theorem h0_v0 : after (hostOps0 (F := Ideal)) V (Proc.devRef .tc main_v0)
    = shapeCast S128x16384 (V (Proc.devRef .tc main_arg0)) shapeCasts_S1x128x16384_S128x16384 := by
  after_results
  rfl

theorem h0_v15 : after (hostOps0 (F := Ideal)) V (Proc.devRef .tc main_v15)
    = shapeCast S1x16384 (V (Proc.devRef .tc main_arg1)) shapeCasts_S16384_S1x16384 := by
  after_results
  rfl

theorem h0_v14 : IsHad (after (hostOps0 (F := Ideal)) V (Proc.devRef .tc main_v14)) := by
  intro u l
  refine Eq.trans ?_ (had_val u l)
  after_results
  rfl

theorem h2_v18 : after (hostOps2 (F := Ideal)) V (Proc.devRef .tc main_v18)
    = shapeCast S1x128x7168 (V (Proc.devRef .tc main_v17)) shapeCasts_S128x7168_S1x128x7168 := by
  after_results
  rfl

theorem h2_v19 : after (hostOps2 (F := Ideal)) V (Proc.devRef .tc main_v19)
    = shapeCast S1x128x16384 (V (Proc.devRef .tc main_v16_0)) shapeCasts_S128x16384_S1x128x16384 := by
  after_results
  rfl

theorem h2_v20 : after (hostOps2 (F := Ideal)) V (Proc.devRef .tc main_v20)
    = shapeCast S1x128 (V (Proc.devRef .tc main_v16_2)) shapeCasts_S128x1_S1x128 := by
  after_results
  rfl

section Out

variable (m : (ℓ : Loc nD τ sig) → Buf (Elt Ideal) ℓ) (ρ : Dev nD → PrngReg) (c : Dev nD)

theorem kRow_eq (r : Fin 128) : kRow (V1 m ρ c main_v0) (V1 m ρ c main_v15) r
    = aRow (m ((c : Thread nD τ).loc main_arg0)) (m ((c : Thread nD τ).loc main_arg1)) r := by
  unfold kRow aRow
  refine congr (congrArg hadE (funext fun u => ?_)) (funext fun u => ?_)
  · refine (congrFun (h0_v0 (W0 m ρ c)) (ix2 r u)).trans (shapeCast_apply _ _ (ix2 r u) (ix3 0 r u) ?_)
    refine (Shape.rowMajor_val_three _).trans (Eq.trans ?_ (Shape.rowMajor_val_two _).symm)
    show (0 * 128 + r.val) * 16384 + u.val = r.val * 16384 + u.val
    rw [zero_mul, zero_add]
  · refine (congrFun (h0_v15 (W0 m ρ c)) (ix2 0 u)).trans (shapeCast_apply _ _ (ix2 0 u) (ix1 u) ?_)
    refine (Shape.rowMajor_val_one _).trans (Eq.trans ?_ (Shape.rowMajor_val_two _).symm)
    show u.val = 0 * 16384 + u.val
    rw [zero_mul, zero_add]

theorem w2_codes : W2 m ρ c (Proc.devRef .tc main_v16_0)
    = codesOut (m ((c : Thread nD τ).loc main_arg0)) (m ((c : Thread nD τ).loc main_arg1)) := by
  refine (W2_arr m ρ c 3).trans ((arr0_codes (V1 m ρ) c (h0_v14 (W0 m ρ c))).trans (funext fun i => ?_))
  unfold codesOut
  exact congrArg (fun h => Ideal.fptosi 8 (qE h (i 1).val)) (kRow_eq m ρ c (i 0))

theorem w2_scale : W2 m ρ c (Proc.devRef .tc main_v16_2)
    = scaleOut (m ((c : Thread nD τ).loc main_arg0)) (m ((c : Thread nD τ).loc main_arg1)) := by
  refine (W2_arr m ρ c 5).trans ((arr0_scale (V1 m ρ) c (h0_v14 (W0 m ρ c))).trans (funext fun i => ?_))
  unfold scaleOut
  exact congrArg sclE (kRow_eq m ρ c (i 0))

theorem w2_x8 (r : Fin 128) (p : Fin 16384) : (W2 m ρ c (Proc.devRef .tc main_v16_1) : Vec Ideal S128x16384 .fp8e4m3) (ix2 r p)
    = ((qR (aRow (m ((c : Thread nD τ).loc main_arg0)) (m ((c : Thread nD τ).loc main_arg1)) r) p.val : ℝ) : EReal) := by
  refine (congrFun ((W2_arr m ρ c 4).trans (arr0_x8 (V1 m ρ) c (h0_v14 (W0 m ρ c)))) (ix2 r p)).trans ?_
  rw [qR_coe]
  exact congrArg (fun h => qE h p.val) (kRow_eq m ρ c r)

theorem w3_y (ht : ∀ (u : Fin 4096) (j : Fin 7168), IsTern ((m ((c : Thread nD τ).loc main_arg2) : Vec Ideal S4096x7168 .i8) (ix2 u j))) :
    W3 m ρ c (Proc.devRef .tc main_v17)
      = yOut (m ((c : Thread nD τ).loc main_arg0)) (m ((c : Thread nD τ).loc main_arg1)) (m ((c : Thread nD τ).loc main_arg2)) (m ((c : Thread nD τ).loc main_arg3)) := by
  have e2 : V2 m ρ c main_arg2 = m ((c : Thread nD τ).loc main_arg2) := W2_args m ρ c main_arg2 (by decide)
  have e3 : V2 m ρ c main_arg3 = m ((c : Thread nD τ).loc main_arg3) := W2_args m ρ c main_arg3 (by decide)
  refine (W3_arr m ρ c 4).trans ((arr1_y (V2 m ρ) c (fun r => qR (aRow (m ((c : Thread nD τ).loc main_arg0)) (m ((c : Thread nD τ).loc main_arg1)) r))
    (w2_x8 m ρ c) (fun u j => by rw [e2]; exact ht u j)).trans (funext fun i => ?_))
  unfold yOut
  rw [e2, e3]
  refine congrArg (fun z => yVal _ _ z _) ?_
  exact congrFun (w2_scale m ρ c) (ix2 (i 0) 0)

theorem out_v18 (ht : ∀ (u : Fin 4096) (j : Fin 7168), IsTern ((m ((c : Thread nD τ).loc main_arg2) : Vec Ideal S4096x7168 .i8) (ix2 u j))) :
    W4 m ρ c (Proc.devRef .tc main_v18)
      = shapeCast S1x128x7168 (yOut (m ((c : Thread nD τ).loc main_arg0)) (m ((c : Thread nD τ).loc main_arg1)) (m ((c : Thread nD τ).loc main_arg2)) (m ((c : Thread nD τ).loc main_arg3))) shapeCasts_S128x7168_S1x128x7168 :=
  (h2_v18 (W3 m ρ c)).trans (congrArg (fun z => shapeCast S1x128x7168 z shapeCasts_S128x7168_S1x128x7168) (w3_y m ρ c ht))

theorem out_v19 : W4 m ρ c (Proc.devRef .tc main_v19)
    = shapeCast S1x128x16384 (codesOut (m ((c : Thread nD τ).loc main_arg0)) (m ((c : Thread nD τ).loc main_arg1))) shapeCasts_S128x16384_S1x128x16384 :=
  (h2_v19 (W3 m ρ c)).trans (congrArg (fun z => shapeCast S1x128x16384 z shapeCasts_S128x16384_S1x128x16384)
    ((W3_of_ne m ρ c main_v16_0 (by decide)).trans (w2_codes m ρ c)))

theorem out_v20 : W4 m ρ c (Proc.devRef .tc main_v20)
    = shapeCast S1x128 (scaleOut (m ((c : Thread nD τ).loc main_arg0)) (m ((c : Thread nD τ).loc main_arg1))) shapeCasts_S128x1_S1x128 :=
  (h2_v20 (W3 m ρ c)).trans (congrArg (fun z => shapeCast S1x128 z shapeCasts_S128x1_S1x128)
    ((W3_of m ρ c main_v16_2 (by decide)).trans (w2_scale m ρ c)))

end Out

end Cert.KernelIdeal.Val
-- ==== Proof.RefRun.lean ====
/- What the reference's call stores. -/
module

public import proofs.«01_k».proof.Proof.RefBlock
public import proofs.«01_k».proof.Proof.KHost

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx ix2_eta qR qR_coe wCol yOut codesOut scaleOut aRow)

section Run
variable {F : FTy → Type} [FloatOps F]
variable (c : Dev nD) (arg0 : Memref sig .tc .vmem S128x16384 .f32) (harg0 : arg0.IsWhole) (arg1 : Memref sig .tc .vmem S4096x7168 .i8) (harg1 : arg1.IsWhole) (arg2 : Memref sig .tc .vmem S4096x7168 .i8) (harg2 : arg2.IsWhole) (arg3 : Memref sig .tc .vmem S4096x7168 .i8) (harg3 : arg3.IsWhole) (arg4 : Memref sig .tc .vmem S4096x7168 .i8) (harg4 : arg4.IsWhole) (arg5 : Memref sig .tc .smem S1 .f32) (harg5 : arg5.IsWhole) (arg6 : Memref sig .tc .vmem S128x7168 .bf16) (harg6 : arg6.IsWhole) (arg7 : Memref sig .tc .vmem S128x16384 .i8) (harg7 : arg7.IsWhole) (arg8 : Memref sig .tc .vmem S128x1 .f32) (harg8 : arg8.IsWhole)
    (x0 : Vec F S128x16384 .f32) (x1 : Vec F S4096x7168 .i8) (x2 : Vec F S4096x7168 .i8) (x3 : Vec F S4096x7168 .i8) (x4 : Vec F S4096x7168 .i8) (x5 : Vec F S1 .f32)

/-- A whole block as the body loads it. -/
abbrev ld0 (arg0 : Memref sig .tc .vmem S128x16384 .f32) (harg0 : arg0.IsWhole) (x0 : Vec F S128x16384 .f32) : Vec F S128x16384 .f32 :=
  View.readAt (Elt F) arg0.view (Rect.unit ![0, 0] S128x16384.size inb_S128x16384_S128x16384_0_0).toLoadRect (harg0.unread x0)
abbrev ldW (arg1 : Memref sig .tc .vmem S4096x7168 .i8) (harg1 : arg1.IsWhole) (x1 : Vec F S4096x7168 .i8) : Vec F S4096x7168 .i8 :=
  View.readAt (Elt F) arg1.view (Rect.unit ![0, 0] S4096x7168.size inb_S4096x7168_S4096x7168_0_0).toLoadRect (harg1.unread x1)
abbrev ldS (arg5 : Memref sig .tc .smem S1 .f32) (harg5 : arg5.IsWhole) (x5 : Vec F S1 .f32) : F .f32 :=
  View.readAt (Elt F) arg5.view (Rect.unit ![0] S1.size inb_S1_S1_0).toLoadRect (harg5.unread x5) (Shape.Idx.first (by decide))

theorem run_y :
    (kernelRun0_A (F := F) c arg0 harg0 arg1 harg1 arg2 harg2 arg3 harg3 arg4 harg4 arg5 harg5 arg6 harg6 arg7 harg7 arg8 harg8 x0 x1 x2 x3 x4 x5).1
      = [⟨Rect.unit ![0, 0] S128x7168.size inb_S128x7168_S128x7168_0_0,
          k0_pay1 (k0_pay3 (ld0 arg0 harg0 x0)) (k0_pay5 (ld0 arg0 harg0 x0)) (k0_pay6 (ld0 arg0 harg0 x0) (ldW arg1 harg1 x1) (ldW arg2 harg2 x2))
            (k0_pay7 (ldW arg3 harg3 x3)) (k0_pay8 (ld0 arg0 harg0 x0)) (constant S128x7168 .f32 0x00000000#32) (ldW arg4 harg4 x4) (ldS arg5 harg5 x5)⟩] := by sl_kernel_rfl

theorem run_codes :
    (kernelRun0_A (F := F) c arg0 harg0 arg1 harg1 arg2 harg2 arg3 harg3 arg4 harg4 arg5 harg5 arg6 harg6 arg7 harg7 arg8 harg8 x0 x1 x2 x3 x4 x5).2.1
      = [⟨Rect.unit ![0, 0] S128x16384.size inb_S128x16384_S128x16384_0_0, k0_pay4 (ld0 arg0 harg0 x0)⟩] := by sl_kernel_rfl

theorem run_scale :
    (kernelRun0_A (F := F) c arg0 harg0 arg1 harg1 arg2 harg2 arg3 harg3 arg4 harg4 arg5 harg5 arg6 harg6 arg7 harg7 arg8 harg8 x0 x1 x2 x3 x4 x5).2.2.1
      = [⟨Rect.unit ![0, 0] S128x1.size inb_S128x1_S128x1_0_0, k0_pay3 (ld0 arg0 harg0 x0)⟩] := by sl_kernel_rfl

end Run

end Cert.ReferenceIdeal.Val
-- ==== Proof.RefOut.lean ====
/- What the reference's call stores, at an index. -/
module

public import proofs.«01_k».proof.Proof.RefRun

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx ix2_eta qR qR_coe wCol yOut codesOut scaleOut aRow)

section Out
variable (c : Dev nD) (arg0 : Memref sig .tc .vmem S128x16384 .f32) (harg0 : arg0.IsWhole) (arg1 : Memref sig .tc .vmem S4096x7168 .i8) (harg1 : arg1.IsWhole) (arg2 : Memref sig .tc .vmem S4096x7168 .i8) (harg2 : arg2.IsWhole) (arg3 : Memref sig .tc .vmem S4096x7168 .i8) (harg3 : arg3.IsWhole) (arg4 : Memref sig .tc .vmem S4096x7168 .i8) (harg4 : arg4.IsWhole) (arg5 : Memref sig .tc .smem S1 .f32) (harg5 : arg5.IsWhole) (arg6 : Memref sig .tc .vmem S128x7168 .bf16) (harg6 : arg6.IsWhole) (arg7 : Memref sig .tc .vmem S128x16384 .i8) (harg7 : arg7.IsWhole) (arg8 : Memref sig .tc .vmem S128x1 .f32) (harg8 : arg8.IsWhole)
    (x0 : Vec Ideal S128x16384 .f32) (x1 : Vec Ideal S4096x7168 .i8) (x2 : Vec Ideal S4096x7168 .i8) (x3 : Vec Ideal S4096x7168 .i8) (x4 : Vec Ideal S4096x7168 .i8) (x5 : Vec Ideal S1 .f32)

theorem ld0_row (r : Fin 128) (h : ℕ → EReal) (hx : IsRow x0 r h) : IsRow (ld0 arg0 harg0 x0) r h := fun p =>
  ((harg0.readAt_unread x0 _ _).trans (congrArg x0 (unit_zero_idx (R := 128) (C := 16384) _ r p))).trans (hx p)

theorem ldW_apply (u : Fin 4096) (j : Fin 7168) : ldW arg1 harg1 x1 (ix2 u j) = x1 (ix2 u j) :=
  (harg1.readAt_unread x1 _ _).trans (congrArg x1 (unit_zero_idx (R := 4096) (C := 7168) _ u j))

theorem ldS_eq : ldS arg5 harg5 x5 = x5 (ix1 0) :=
  (harg5.readAt_unread x5 _ _).trans (congrArg x5 (by
    funext a
    match a with
    | ⟨0, _⟩ => rfl))

theorem out_codes (r : Fin 128) (h : ℕ → EReal) (hx : IsRow x0 r h) (p : Fin 16384) :
    out0_A_7 (F := Ideal) c arg0 harg0 arg1 harg1 arg2 harg2 arg3 harg3 arg4 harg4 arg5 harg5 arg6 harg6 arg7 harg7 arg8 harg8 x0 x1 x2 x3 x4 x5 (ix2 r p)
      = Ideal.fptosi 8 (qE h p.val) := by
  unfold out0_A_7
  rw [View.read_writes_junk_eq_canon, run_codes]
  have e := View.canon_cons_emb (Val := Elt Ideal) (e := .i8) (Rect.unit (s := S128x16384) ![0, 0] S128x16384.size inb_S128x16384_S128x16384_0_0)
    (k0_pay4 (F := Ideal) (ld0 arg0 harg0 x0)) [] (ix2 r p)
  rw [show (Rect.unit (s := S128x16384) ![0, 0] S128x16384.size inb_S128x16384_S128x16384_0_0).emb (ix2 r p) = ix2 r p from
    unit_zero_idx (R := 128) (C := 16384) _ r p] at e
  exact e.trans (codes_apply _ r h (ld0_row arg0 harg0 x0 r h hx) p)

theorem out_scale (r : Fin 128) (h : ℕ → EReal) (hx : IsRow x0 r h) :
    out0_A_8 (F := Ideal) c arg0 harg0 arg1 harg1 arg2 harg2 arg3 harg3 arg4 harg4 arg5 harg5 arg6 harg6 arg7 harg7 arg8 harg8 x0 x1 x2 x3 x4 x5 (ix2 r 0)
      = sclE h := by
  unfold out0_A_8
  rw [View.read_writes_junk_eq_canon, run_scale]
  have e := View.canon_cons_emb (Val := Elt Ideal) (e := .f32) (Rect.unit (s := S128x1) ![0, 0] S128x1.size inb_S128x1_S128x1_0_0)
    (k0_pay3 (F := Ideal) (ld0 arg0 harg0 x0)) [] (ix2 r 0)
  rw [show (Rect.unit (s := S128x1) ![0, 0] S128x1.size inb_S128x1_S128x1_0_0).emb (ix2 r 0) = ix2 r 0 from
    unit_zero_idx (R := 128) (C := 1) _ r 0] at e
  exact e.trans (pay3_apply _ r h (ld0_row arg0 harg0 x0 r h hx))

theorem part_val (f o : ℕ) (ho : o + 4096 ≤ 16384) (hf : o = 4096 * f) (hs : S128x16384.Slices ![0, o] S128x4096) (v : FVec Ideal S128x16384 .fp8e4m3) (w : IVec S4096x7168 8)
    (r : Fin 128) (j : Fin 7168) (q : ℕ → ℝ) (hv : ∀ p : Fin 16384, v (ix2 r p) = ((q p.val : ℝ) : EReal))
    (b : ℕ → BitVec 8) (hw : ∀ u : Fin 4096, (((w (ix2 u j)).toInt : ℝ) : EReal) = ((ternE f (b u.val) : ℝ) : EReal)) :
    partF o hs v w (ix2 r j) = 0 + ∑ u : Fin 4096, ((q (4096 * f + u.val) : ℝ) : EReal) * ((ternE f (b u.val) : ℝ) : EReal) := by
  subst hf
  refine (partF_apply _ hs v w ho r j).trans (congrArg (0 + ·) (Finset.sum_congr rfl fun u _ => ?_))
  rw [hv, hw]

theorem out_y (r : Fin 128) (j : Fin 7168) (h : ℕ → EReal) (hx : IsRow x0 r h) (b : ℕ → BitVec 8)
    (h1 : ∀ u : Fin 4096, (((x1 (ix2 u j)).toInt : ℝ) : EReal) = ((ternE 0 (b u.val) : ℝ) : EReal))
    (h2 : ∀ u : Fin 4096, (((x2 (ix2 u j)).toInt : ℝ) : EReal) = ((ternE 1 (b u.val) : ℝ) : EReal))
    (h3 : ∀ u : Fin 4096, (((x3 (ix2 u j)).toInt : ℝ) : EReal) = ((ternE 2 (b u.val) : ℝ) : EReal))
    (h4 : ∀ u : Fin 4096, (((x4 (ix2 u j)).toInt : ℝ) : EReal) = ((ternE 3 (b u.val) : ℝ) : EReal)) :
    out0_A_6 (F := Ideal) c arg0 harg0 arg1 harg1 arg2 harg2 arg3 harg3 arg4 harg4 arg5 harg5 arg6 harg6 arg7 harg7 arg8 harg8 x0 x1 x2 x3 x4 x5 (ix2 r j)
      = yVal (qR h) b (sclE h) (x5 (ix1 0)) := by
  unfold out0_A_6
  rw [View.read_writes_junk_eq_canon, run_y, pay1_eq]
  have e := View.canon_cons_emb (Val := Elt Ideal) (e := .bf16) (Rect.unit (s := S128x7168) ![0, 0] S128x7168.size inb_S128x7168_S128x7168_0_0)
    (prodF (k0_pay3 (ld0 arg0 harg0 x0)) (k0_pay5 (ld0 arg0 harg0 x0)) (ldW (F := Ideal) arg1 harg1 x1) (ldW (F := Ideal) arg2 harg2 x2)
      (ldW (F := Ideal) arg3 harg3 x3) (ldW (F := Ideal) arg4 harg4 x4) (ldS arg5 harg5 x5)) [] (ix2 r j)
  rw [show (Rect.unit (s := S128x7168) ![0, 0] S128x7168.size inb_S128x7168_S128x7168_0_0).emb (ix2 r j) = ix2 r j from
    unit_zero_idx (R := 128) (C := 7168) _ r j] at e
  have hq : ∀ p : Fin 16384, k0_pay5 (ld0 arg0 harg0 x0) (ix2 r p) = ((qR h p.val : ℝ) : EReal) := fun p =>
    (pay5_apply _ r h (ld0_row arg0 harg0 x0 r h hx) p).trans (qR_coe h p.val).symm
  refine e.trans ((prodF_apply _ _ _ _ _ _ _ r j).trans ?_)
  rw [part_val 0 0 (by norm_num) rfl _ _ _ r j (qR h) hq b (fun u => by rw [ldW_apply]; exact h1 u),
    part_val 1 4096 (by norm_num) rfl _ _ _ r j (qR h) hq b (fun u => by rw [ldW_apply]; exact h2 u),
    part_val 2 8192 (by norm_num) rfl _ _ _ r j (qR h) hq b (fun u => by rw [ldW_apply]; exact h3 u),
    part_val 3 12288 (by norm_num) rfl _ _ _ r j (qR h) hq b (fun u => by rw [ldW_apply]; exact h4 u),
    pay3_apply _ r h (ld0_row arg0 harg0 x0 r h hx), ldS_eq]
  rfl

end Out

end Cert.ReferenceIdeal.Val
-- ==== Proof.RefStage.lean ====
/- One stage of the reference's transform, at an element. -/
module

public import proofs.«01_k».proof.Proof.Spec
public import Idealize.ShloMosaic.Lib.Pointwise
public import Idealize.ShloMosaic.Lib.Pipeline.ValueKit.Geometry

@[expose] public section

set_option maxRecDepth 16384

noncomputable section

namespace Cert.Proof

open Idealize.ShloMosaic

abbrev T0 : Shape := ⟨3, ![1, 128, 16384]⟩
abbrev T5 (nb m : ℕ) : Shape := ⟨5, ![1, 128, nb, 2, m]⟩
abbrev T5h (nb m : ℕ) : Shape := ⟨5, ![1, 128, nb, 1, m]⟩
abbrev T4 (nb m : ℕ) : Shape := ⟨4, ![1, 128, nb, m]⟩

/-- One of the halves of each block of a row. -/
def half (nb m e : ℕ) (x : T0.Idx → Ideal .f32) (h1 : T0.ShapeCasts (T5 nb m)) (h2 : (T5 nb m).Slices ![0, 0, 0, e, 0] (T5h nb m))
    (h3 : (T5h nb m).ShapeCasts (T4 nb m)) : FVec Ideal (T4 nb m) .f32 :=
  shapeCast (T4 nb m) (extractStridedSlice (T5h nb m) ![0, 0, 0, e, 0] (shapeCast (T5 nb m) x h1) h2) h3

/-- The sums and the differences of the halves, block by block. -/
def stageF (nb m : ℕ) (x : T0.Idx → Ideal .f32) (h1 : T0.ShapeCasts (T5 nb m)) (h20 : (T5 nb m).Slices ![0, 0, 0, 0, 0] (T5h nb m))
    (h21 : (T5 nb m).Slices ![0, 0, 0, 1, 0] (T5h nb m)) (h3 : (T5h nb m).ShapeCasts (T4 nb m))
    (h5 : (T4 nb m).BroadcastsInDim (T5h nb m) ![0, 1, 2, 4]) (h6 : Shape.Concatenates [T5h nb m, T5h nb m] (T5 nb m) 3)
    (h7 : (T5 nb m).ShapeCasts T0) : T0.Idx → Ideal .f32 :=
  shapeCast T0 (concatenate (T5 nb m) 3
    [⟨T5h nb m, broadcastInDim (T5h nb m) ![0, 1, 2, 4] h5 (addf (half nb m 0 x h1 h20 h3) (half nb m 1 x h1 h21 h3))⟩,
     ⟨T5h nb m, broadcastInDim (T5h nb m) ![0, 1, 2, 4] h5 (subf (half nb m 0 x h1 h20 h3) (half nb m 1 x h1 h21 h3))⟩] h6) h7

theorem pos_lt {nb m A e w : ℕ} (hnm : nb * 2 * m = 16384) (hA : A < nb) (he : e < 2) (hw : w < m) : (A * 2 + e) * m + w < 16384 := by
  have h1 : A * 2 + e + 1 ≤ nb * 2 := by omega
  have h2 := Nat.mul_le_mul_right m h1
  rw [Nat.add_mul, one_mul, hnm] at h2
  omega

theorem half_apply (nb m e : ℕ) (x : T0.Idx → Ideal .f32) (h1 : T0.ShapeCasts (T5 nb m)) (h2 : (T5 nb m).Slices ![0, 0, 0, e, 0] (T5h nb m))
    (h3 : (T5h nb m).ShapeCasts (T4 nb m)) (hnm : nb * 2 * m = 16384) (he : e < 2) (r : Fin 128) (A : Fin nb) (w : Fin m) :
    half nb m e x h1 h2 h3 (ix4 0 r A w) = x (ix3 0 r ⟨(A.val * 2 + e) * m + w.val, pos_lt hnm A.isLt he w.isLt⟩) := by
  unfold half
  refine (shapeCast_apply _ h3 (ix4 0 r A w) (ix5 0 r A 0 w) ?_).trans ?_
  · refine (Shape.rowMajor_val_five _).trans (Eq.trans ?_ (Shape.rowMajor_val_four _).symm)
    show (((0 * 128 + r.val) * nb + A.val) * 1 + 0) * m + w.val = ((0 * 128 + r.val) * nb + A.val) * m + w.val
    rw [mul_one, add_zero]
  refine (extractStridedSlice_apply _ _ h2 (ix5 0 r A 0 w) (ix5 0 r A ⟨e, he⟩ w) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.add_zero _).symm
    | ⟨4, _⟩ => exact (Nat.zero_add _).symm
  refine shapeCast_apply _ h1 (ix5 0 r A ⟨e, he⟩ w) _ ?_
  refine (Shape.rowMajor_val_three _).trans (Eq.trans ?_ (Shape.rowMajor_val_five _).symm)
  show (0 * 128 + r.val) * 16384 + ((A.val * 2 + e) * m + w.val) = (((0 * 128 + r.val) * nb + A.val) * 2 + e) * m + w.val
  rw [← hnm]
  ring

theorem bcast_ix (nb m : ℕ) (h5 : (T4 nb m).BroadcastsInDim (T5h nb m) ![0, 1, 2, 4]) (v : FVec Ideal (T4 nb m) .f32)
    (r : Fin 128) (A : Fin nb) (w : Fin m) :
    broadcastInDim (T5h nb m) ![0, 1, 2, 4] h5 v (ix5 0 r A 0 w) = v (ix4 0 r A w) := by
  refine broadcastInDim_apply _ h5 v (ix5 0 r A 0 w) (ix4 0 r A w) fun a => ?_
  match a with
  | ⟨0, _⟩ => rfl
  | ⟨1, _⟩ => rfl
  | ⟨2, _⟩ =>
    show A.val = if nb = 1 then 0 else A.val
    have := A.isLt
    split <;> omega
  | ⟨3, _⟩ =>
    show w.val = if m = 1 then 0 else w.val
    have := w.isLt
    split <;> omega

theorem stageF_apply (nb k : ℕ) (x : T0.Idx → Ideal .f32) (h1 : T0.ShapeCasts (T5 nb (2 ^ k))) (h20 : (T5 nb (2 ^ k)).Slices ![0, 0, 0, 0, 0] (T5h nb (2 ^ k)))
    (h21 : (T5 nb (2 ^ k)).Slices ![0, 0, 0, 1, 0] (T5h nb (2 ^ k))) (h3 : (T5h nb (2 ^ k)).ShapeCasts (T4 nb (2 ^ k)))
    (h5 : (T4 nb (2 ^ k)).BroadcastsInDim (T5h nb (2 ^ k)) ![0, 1, 2, 4]) (h6 : Shape.Concatenates [T5h nb (2 ^ k), T5h nb (2 ^ k)] (T5 nb (2 ^ k)) 3)
    (h7 : (T5 nb (2 ^ k)).ShapeCasts T0) (hnm : nb * 2 * 2 ^ k = 16384) (r : Fin 128) (X : ℕ → EReal)
    (hX : ∀ p : Fin 16384, x (ix3 0 r p) = X p.val) (p : Fin 16384) :
    stageF nb (2 ^ k) x h1 h20 h21 h3 h5 h6 h7 (ix3 0 r p) = stg k X p.val := by
  have hm : 0 < 2 ^ k := by positivity
  obtain ⟨a, e, w, he, hw, hp⟩ := split_bit k p.val
  have hA : a < nb := by
    by_contra hc
    have h2 := Nat.mul_le_mul_right (2 ^ k) (Nat.mul_le_mul_right 2 (Nat.le_of_not_lt hc))
    rw [hnm] at h2
    have := p.isLt
    have e1 : 2 ^ k * (2 * a + e) + w = a * 2 * 2 ^ k + (e * 2 ^ k + w) := by ring
    omega
  have hpe : p.val = (a * 2 + e) * 2 ^ k + w := by rw [hp]; ring
  have hdiv : p.val / 2 ^ k = a * 2 + e := by
    rw [hpe, Nat.mul_comm, Nat.mul_add_div hm, Nat.div_eq_of_lt hw, add_zero]
  have s0 := half_apply nb (2 ^ k) 0 x h1 h20 h3 hnm (by omega) r ⟨a, hA⟩ ⟨w, hw⟩
  have s1 := half_apply nb (2 ^ k) 1 x h1 h21 h3 hnm (by omega) r ⟨a, hA⟩ ⟨w, hw⟩
  rw [hX] at s0 s1
  unfold stageF stg
  generalize half nb (2 ^ k) 0 x h1 h20 h3 = u at s0
  generalize half nb (2 ^ k) 1 x h1 h21 h3 = v at s1
  refine (shapeCast_apply _ h7 (ix3 0 r p) (ix5 0 r ⟨a, hA⟩ ⟨e, he⟩ ⟨w, hw⟩) ?_).trans ?_
  · refine (Shape.rowMajor_val_five _).trans (Eq.trans ?_ (Shape.rowMajor_val_three _).symm)
    show (((0 * 128 + r.val) * nb + a) * 2 + e) * 2 ^ k + w = (0 * 128 + r.val) * 16384 + p.val
    rw [hpe, ← hnm]
    ring
  rcases (by omega : e = 0 ∨ e = 1) with h0 | h0
  · subst h0
    rw [hdiv, if_pos (by omega)]
    refine (concatenate_pair_apply_left 3 _ _ h6 (ix5 0 r ⟨a, hA⟩ ⟨0, he⟩ ⟨w, hw⟩) rfl (ix5 0 r ⟨a, hA⟩ 0 ⟨w, hw⟩) fun b => ?_).trans ?_
    · match b with
      | ⟨0, _⟩ => rfl
      | ⟨1, _⟩ => rfl
      | ⟨2, _⟩ => rfl
      | ⟨3, _⟩ => rfl
      | ⟨4, _⟩ => rfl
    refine (bcast_ix nb (2 ^ k) h5 _ r ⟨a, hA⟩ ⟨w, hw⟩).trans ?_
    refine (show addf u v (ix4 0 r ⟨a, hA⟩ ⟨w, hw⟩) = (u (ix4 0 r ⟨a, hA⟩ ⟨w, hw⟩) : EReal) + v (ix4 0 r ⟨a, hA⟩ ⟨w, hw⟩) from rfl).trans ?_
    rw [s0, s1]
    show X ((a * 2 + 0) * 2 ^ k + w) + X ((a * 2 + 1) * 2 ^ k + w) = X p.val + X (p.val + 2 ^ k)
    rw [hpe, show (a * 2 + 0) * 2 ^ k + w + 2 ^ k = (a * 2 + 1) * 2 ^ k + w by ring]
  · subst h0
    rw [hdiv, if_neg (by omega)]
    refine (concatenate_pair_apply_right 3 _ _ h6 (ix5 0 r ⟨a, hA⟩ ⟨1, he⟩ ⟨w, hw⟩) rfl rfl (ix5 0 r ⟨a, hA⟩ 0 ⟨w, hw⟩) (fun b hb => ?_) rfl).trans ?_
    · match b with
      | ⟨0, _⟩ => rfl
      | ⟨1, _⟩ => rfl
      | ⟨2, _⟩ => rfl
      | ⟨3, _⟩ => exact absurd rfl hb
      | ⟨4, _⟩ => rfl
    refine (bcast_ix nb (2 ^ k) h5 _ r ⟨a, hA⟩ ⟨w, hw⟩).trans ?_
    refine (show subf u v (ix4 0 r ⟨a, hA⟩ ⟨w, hw⟩) = (u (ix4 0 r ⟨a, hA⟩ ⟨w, hw⟩) : EReal) - v (ix4 0 r ⟨a, hA⟩ ⟨w, hw⟩) from rfl).trans ?_
    rw [s0, s1]
    show X ((a * 2 + 0) * 2 ^ k + w) - X ((a * 2 + 1) * 2 ^ k + w) = X (p.val - 2 ^ k) - X p.val
    rw [hpe, show (a * 2 + 1) * 2 ^ k + w = (a * 2 + 0) * 2 ^ k + w + 2 ^ k by ring, Nat.add_sub_cancel]

theorem stageF_apply' (nb k m : ℕ) (hm : m = 2 ^ k) (x : T0.Idx → Ideal .f32) (h1 : T0.ShapeCasts (T5 nb m)) (h20 : (T5 nb m).Slices ![0, 0, 0, 0, 0] (T5h nb m))
    (h21 : (T5 nb m).Slices ![0, 0, 0, 1, 0] (T5h nb m)) (h3 : (T5h nb m).ShapeCasts (T4 nb m))
    (h5 : (T4 nb m).BroadcastsInDim (T5h nb m) ![0, 1, 2, 4]) (h6 : Shape.Concatenates [T5h nb m, T5h nb m] (T5 nb m) 3)
    (h7 : (T5 nb m).ShapeCasts T0) (hnm : nb * 2 * m = 16384) (r : Fin 128) (X : ℕ → EReal)
    (hX : ∀ p : Fin 16384, x (ix3 0 r p) = X p.val) (p : Fin 16384) :
    stageF nb m x h1 h20 h21 h3 h5 h6 h7 (ix3 0 r p) = stg k X p.val := by
  subst hm
  exact stageF_apply nb k x h1 h20 h21 h3 h5 h6 h7 hnm r X hX p

end Cert.Proof
-- ==== Proof.RefHost.lean ====
/- What the reference's host operations leave, stage by stage. -/
module

public import proofs.«01_k».proof.Proof.RefStage
public import proofs.«01_k».proof.Proof.Bits
public import proofs.«01_k».proof.Proof.Gen.ReferenceIdeal.Launch
public import Idealize.ShloMosaic.Lib.StableHlo.RunRead
public import Idealize.ShloMosaic.Lib.IdealHost

@[expose] public section

set_option maxRecDepth 65536
set_option maxHeartbeats 4000000

noncomputable section

namespace Cert.ReferenceIdeal.Val

open Idealize.ShloMosaic Idealize.ShloMosaic.TcCoe Idealize.ShloMosaic.Tactic Idealize.ShloMosaic.StableHlo
open Cert.ReferenceIdeal Cert.ReferenceIdeal.Gen Cert.Proof

variable (V : Valuation τ sig (Elt Ideal))

/-- The normalised rows. -/
def nrmF (x : FVec Ideal S1x128x16384 .bf16) (g : FVec Ideal S16384 .f32) : FVec Ideal S1x128x16384 .f32 :=
  mulf (mulf (extf .f32 x bitsLt_bf16_f32) (broadcastInDim S1x128x16384 ![0, 1, 2] bcast_S1x128x1_S1x128x16384_0_1_2
    (Host.rsqrt (addf (Host.divf (broadcastInDim S1x128x1 ![0, 1] bcast_S1x128_S1x128x1_0_1
      (Host.reduceAdd (mulf (extf .f32 x bitsLt_bf16_f32) (extf .f32 x bitsLt_bf16_f32)) (constant S_ .f32 0x00000000#32) reducesTo_S1x128x16384_S1x128_d2 h_S_))
      (broadcastInDim S1x128x1 ![] bcast_S_S1x128x1 (constant S_ .f32 0x46800000#32)))
      (broadcastInDim S1x128x1 ![] bcast_S_S1x128x1 (constant S_ .f32 0x3727C5AC#32))))))
    (broadcastInDim S1x128x16384 ![0, 1, 2] bcast_S1x1x16384_S1x128x16384_0_1_2 (broadcastInDim S1x1x16384 ![2] bcast_S16384_S1x1x16384_2 g))

/-- A field of the packed weights. -/
def wF (c : BitVec 32) (w : IVec S4096x7168 8) : IVec S4096x7168 8 :=
  trunci 8 (subi (andi (Host.shrsi (extui 32 w natLt_8_32) (broadcastInDim S4096x7168 ![] bcast_S_S4096x7168 (constantI S_ 32 c)))
    (broadcastInDim S4096x7168 ![] bcast_S_S4096x7168 (constantI S_ 32 3#32))) (broadcastInDim S4096x7168 ![] bcast_S_S4096x7168 (constantI S_ 32 1#32))) natLt_8_32

theorem read_nrm : upto (hostOps0 (F := Ideal)) V 17 (no_index (Proc.devRef .tc main_v13))
    = nrmF (V (Proc.devRef .tc main_arg0)) (V (Proc.devRef .tc main_arg1)) := by
  after_reads_simp
  rfl

theorem read_st13 (X : FVec Ideal S1x128x16384 .f32) (hX : upto (hostOps0 (F := Ideal)) V 17 (no_index (Proc.devRef .tc main_v13)) = X) :
    upto (hostOps0 (F := Ideal)) V 28 (no_index (Proc.devRef .tc main_v24)) = stageF 1 8192 X shapeCasts_S1x128x16384_S1x128x1x2x8192 slices_S1x128x1x2x8192_S1x128x1x1x8192_0_0_0_0_0
      slices_S1x128x1x2x8192_S1x128x1x1x8192_0_0_0_1_0 shapeCasts_S1x128x1x1x8192_S1x128x1x8192 bcast_S1x128x1x8192_S1x128x1x1x8192_0_1_2_4 concatenates_S1x128x1x1x8192_S1x128x1x1x8192_S1x128x1x2x8192_d3 shapeCasts_S1x128x1x2x8192_S1x128x16384 := by
  have ha : upto (hostOps0 (F := Ideal)) V 26 (Proc.devRef .tc main_v21) = broadcastInDim S1x128x1x1x8192 ![0, 1, 2, 4] bcast_S1x128x1x8192_S1x128x1x1x8192_0_1_2_4
      (addf (half 1 8192 0 X shapeCasts_S1x128x16384_S1x128x1x2x8192 slices_S1x128x1x2x8192_S1x128x1x1x8192_0_0_0_0_0 shapeCasts_S1x128x1x1x8192_S1x128x1x8192)
        (half 1 8192 1 X shapeCasts_S1x128x16384_S1x128x1x2x8192 slices_S1x128x1x2x8192_S1x128x1x1x8192_0_0_0_1_0 shapeCasts_S1x128x1x1x8192_S1x128x1x8192)) := by
    after_reads_simp [hX]
    rfl
  have hb : upto (hostOps0 (F := Ideal)) V 26 (Proc.devRef .tc main_v22) = broadcastInDim S1x128x1x1x8192 ![0, 1, 2, 4] bcast_S1x128x1x8192_S1x128x1x1x8192_0_1_2_4
      (subf (half 1 8192 0 X shapeCasts_S1x128x16384_S1x128x1x2x8192 slices_S1x128x1x2x8192_S1x128x1x1x8192_0_0_0_0_0 shapeCasts_S1x128x1x1x8192_S1x128x1x8192)
        (half 1 8192 1 X shapeCasts_S1x128x16384_S1x128x1x2x8192 slices_S1x128x1x2x8192_S1x128x1x1x8192_0_0_0_1_0 shapeCasts_S1x128x1x1x8192_S1x128x1x8192)) := by
    after_reads_simp [hX]
    rfl
  after_reads_simp [hX]
  rw [ha, hb]
  rfl

theorem read_st12 (X : FVec Ideal S1x128x16384 .f32) (hX : upto (hostOps0 (F := Ideal)) V 28 (no_index (Proc.devRef .tc main_v24)) = X) :
    upto (hostOps0 (F := Ideal)) V 39 (no_index (Proc.devRef .tc main_v35)) = stageF 2 4096 X shapeCasts_S1x128x16384_S1x128x2x2x4096 slices_S1x128x2x2x4096_S1x128x2x1x4096_0_0_0_0_0
      slices_S1x128x2x2x4096_S1x128x2x1x4096_0_0_0_1_0 shapeCasts_S1x128x2x1x4096_S1x128x2x4096 bcast_S1x128x2x4096_S1x128x2x1x4096_0_1_2_4 concatenates_S1x128x2x1x4096_S1x128x2x1x4096_S1x128x2x2x4096_d3 shapeCasts_S1x128x2x2x4096_S1x128x16384 := by
  have ha : upto (hostOps0 (F := Ideal)) V 37 (Proc.devRef .tc main_v32) = broadcastInDim S1x128x2x1x4096 ![0, 1, 2, 4] bcast_S1x128x2x4096_S1x128x2x1x4096_0_1_2_4
      (addf (half 2 4096 0 X shapeCasts_S1x128x16384_S1x128x2x2x4096 slices_S1x128x2x2x4096_S1x128x2x1x4096_0_0_0_0_0 shapeCasts_S1x128x2x1x4096_S1x128x2x4096)
        (half 2 4096 1 X shapeCasts_S1x128x16384_S1x128x2x2x4096 slices_S1x128x2x2x4096_S1x128x2x1x4096_0_0_0_1_0 shapeCasts_S1x128x2x1x4096_S1x128x2x4096)) := by
    after_reads_simp [hX]
    rfl
  have hb : upto (hostOps0 (F := Ideal)) V 37 (Proc.devRef .tc main_v33) = broadcastInDim S1x128x2x1x4096 ![0, 1, 2, 4] bcast_S1x128x2x4096_S1x128x2x1x4096_0_1_2_4
      (subf (half 2 4096 0 X shapeCasts_S1x128x16384_S1x128x2x2x4096 slices_S1x128x2x2x4096_S1x128x2x1x4096_0_0_0_0_0 shapeCasts_S1x128x2x1x4096_S1x128x2x4096)
        (half 2 4096 1 X shapeCasts_S1x128x16384_S1x128x2x2x4096 slices_S1x128x2x2x4096_S1x128x2x1x4096_0_0_0_1_0 shapeCasts_S1x128x2x1x4096_S1x128x2x4096)) := by
    after_reads_simp [hX]
    rfl
  after_reads_simp [hX]
  rw [ha, hb]
  rfl

theorem read_st11 (X : FVec Ideal S1x128x16384 .f32) (hX : upto (hostOps0 (F := Ideal)) V 39 (no_index (Proc.devRef .tc main_v35)) = X) :
    upto (hostOps0 (F := Ideal)) V 50 (no_index (Proc.devRef .tc main_v46)) = stageF 4 2048 X shapeCasts_S1x128x16384_S1x128x4x2x2048 slices_S1x128x4x2x2048_S1x128x4x1x2048_0_0_0_0_0
      slices_S1x128x4x2x2048_S1x128x4x1x2048_0_0_0_1_0 shapeCasts_S1x128x4x1x2048_S1x128x4x2048 bcast_S1x128x4x2048_S1x128x4x1x2048_0_1_2_4 concatenates_S1x128x4x1x2048_S1x128x4x1x2048_S1x128x4x2x2048_d3 shapeCasts_S1x128x4x2x2048_S1x128x16384 := by
  have ha : upto (hostOps0 (F := Ideal)) V 48 (Proc.devRef .tc main_v43) = broadcastInDim S1x128x4x1x2048 ![0, 1, 2, 4] bcast_S1x128x4x2048_S1x128x4x1x2048_0_1_2_4
      (addf (half 4 2048 0 X shapeCasts_S1x128x16384_S1x128x4x2x2048 slices_S1x128x4x2x2048_S1x128x4x1x2048_0_0_0_0_0 shapeCasts_S1x128x4x1x2048_S1x128x4x2048)
        (half 4 2048 1 X shapeCasts_S1x128x16384_S1x128x4x2x2048 slices_S1x128x4x2x2048_S1x128x4x1x2048_0_0_0_1_0 shapeCasts_S1x128x4x1x2048_S1x128x4x2048)) := by
    after_reads_simp [hX]
    rfl
  have hb : upto (hostOps0 (F := Ideal)) V 48 (Proc.devRef .tc main_v44) = broadcastInDim S1x128x4x1x2048 ![0, 1, 2, 4] bcast_S1x128x4x2048_S1x128x4x1x2048_0_1_2_4
      (subf (half 4 2048 0 X shapeCasts_S1x128x16384_S1x128x4x2x2048 slices_S1x128x4x2x2048_S1x128x4x1x2048_0_0_0_0_0 shapeCasts_S1x128x4x1x2048_S1x128x4x2048)
        (half 4 2048 1 X shapeCasts_S1x128x16384_S1x128x4x2x2048 slices_S1x128x4x2x2048_S1x128x4x1x2048_0_0_0_1_0 shapeCasts_S1x128x4x1x2048_S1x128x4x2048)) := by
    after_reads_simp [hX]
    rfl
  after_reads_simp [hX]
  rw [ha, hb]
  rfl

theorem read_st10 (X : FVec Ideal S1x128x16384 .f32) (hX : upto (hostOps0 (F := Ideal)) V 50 (no_index (Proc.devRef .tc main_v46)) = X) :
    upto (hostOps0 (F := Ideal)) V 61 (no_index (Proc.devRef .tc main_v57)) = stageF 8 1024 X shapeCasts_S1x128x16384_S1x128x8x2x1024 slices_S1x128x8x2x1024_S1x128x8x1x1024_0_0_0_0_0
      slices_S1x128x8x2x1024_S1x128x8x1x1024_0_0_0_1_0 shapeCasts_S1x128x8x1x1024_S1x128x8x1024 bcast_S1x128x8x1024_S1x128x8x1x1024_0_1_2_4 concatenates_S1x128x8x1x1024_S1x128x8x1x1024_S1x128x8x2x1024_d3 shapeCasts_S1x128x8x2x1024_S1x128x16384 := by
  have ha : upto (hostOps0 (F := Ideal)) V 59 (Proc.devRef .tc main_v54) = broadcastInDim S1x128x8x1x1024 ![0, 1, 2, 4] bcast_S1x128x8x1024_S1x128x8x1x1024_0_1_2_4
      (addf (half 8 1024 0 X shapeCasts_S1x128x16384_S1x128x8x2x1024 slices_S1x128x8x2x1024_S1x128x8x1x1024_0_0_0_0_0 shapeCasts_S1x128x8x1x1024_S1x128x8x1024)
        (half 8 1024 1 X shapeCasts_S1x128x16384_S1x128x8x2x1024 slices_S1x128x8x2x1024_S1x128x8x1x1024_0_0_0_1_0 shapeCasts_S1x128x8x1x1024_S1x128x8x1024)) := by
    after_reads_simp [hX]
    rfl
  have hb : upto (hostOps0 (F := Ideal)) V 59 (Proc.devRef .tc main_v55) = broadcastInDim S1x128x8x1x1024 ![0, 1, 2, 4] bcast_S1x128x8x1024_S1x128x8x1x1024_0_1_2_4
      (subf (half 8 1024 0 X shapeCasts_S1x128x16384_S1x128x8x2x1024 slices_S1x128x8x2x1024_S1x128x8x1x1024_0_0_0_0_0 shapeCasts_S1x128x8x1x1024_S1x128x8x1024)
        (half 8 1024 1 X shapeCasts_S1x128x16384_S1x128x8x2x1024 slices_S1x128x8x2x1024_S1x128x8x1x1024_0_0_0_1_0 shapeCasts_S1x128x8x1x1024_S1x128x8x1024)) := by
    after_reads_simp [hX]
    rfl
  after_reads_simp [hX]
  rw [ha, hb]
  rfl

theorem read_st9 (X : FVec Ideal S1x128x16384 .f32) (hX : upto (hostOps0 (F := Ideal)) V 61 (no_index (Proc.devRef .tc main_v57)) = X) :
    upto (hostOps0 (F := Ideal)) V 72 (no_index (Proc.devRef .tc main_v68)) = stageF 16 512 X shapeCasts_S1x128x16384_S1x128x16x2x512 slices_S1x128x16x2x512_S1x128x16x1x512_0_0_0_0_0
      slices_S1x128x16x2x512_S1x128x16x1x512_0_0_0_1_0 shapeCasts_S1x128x16x1x512_S1x128x16x512 bcast_S1x128x16x512_S1x128x16x1x512_0_1_2_4 concatenates_S1x128x16x1x512_S1x128x16x1x512_S1x128x16x2x512_d3 shapeCasts_S1x128x16x2x512_S1x128x16384 := by
  have ha : upto (hostOps0 (F := Ideal)) V 70 (Proc.devRef .tc main_v65) = broadcastInDim S1x128x16x1x512 ![0, 1, 2, 4] bcast_S1x128x16x512_S1x128x16x1x512_0_1_2_4
      (addf (half 16 512 0 X shapeCasts_S1x128x16384_S1x128x16x2x512 slices_S1x128x16x2x512_S1x128x16x1x512_0_0_0_0_0 shapeCasts_S1x128x16x1x512_S1x128x16x512)
        (half 16 512 1 X shapeCasts_S1x128x16384_S1x128x16x2x512 slices_S1x128x16x2x512_S1x128x16x1x512_0_0_0_1_0 shapeCasts_S1x128x16x1x512_S1x128x16x512)) := by
    after_reads_simp [hX]
    rfl
  have hb : upto (hostOps0 (F := Ideal)) V 70 (Proc.devRef .tc main_v66) = broadcastInDim S1x128x16x1x512 ![0, 1, 2, 4] bcast_S1x128x16x512_S1x128x16x1x512_0_1_2_4
      (subf (half 16 512 0 X shapeCasts_S1x128x16384_S1x128x16x2x512 slices_S1x128x16x2x512_S1x128x16x1x512_0_0_0_0_0 shapeCasts_S1x128x16x1x512_S1x128x16x512)
        (half 16 512 1 X shapeCasts_S1x128x16384_S1x128x16x2x512 slices_S1x128x16x2x512_S1x128x16x1x512_0_0_0_1_0 shapeCasts_S1x128x16x1x512_S1x128x16x512)) := by
    after_reads_simp [hX]
    rfl
  after_reads_simp [hX]
  rw [ha, hb]
  rfl

theorem read_st8 (X : FVec Ideal S1x128x16384 .f32) (hX : upto (hostOps0 (F := Ideal)) V 72 (no_index (Proc.devRef .tc main_v68)) = X) :
    upto (hostOps0 (F := Ideal)) V 83 (no_index (Proc.devRef .tc main_v79)) = stageF 32 256 X shapeCasts_S1x128x16384_S1x128x32x2x256 slices_S1x128x32x2x256_S1x128x32x1x256_0_0_0_0_0
      slices_S1x128x32x2x256_S1x128x32x1x256_0_0_0_1_0 shapeCasts_S1x128x32x1x256_S1x128x32x256 bcast_S1x128x32x256_S1x128x32x1x256_0_1_2_4 concatenates_S1x128x32x1x256_S1x128x32x1x256_S1x128x32x2x256_d3 shapeCasts_S1x128x32x2x256_S1x128x16384 := by
  have ha : upto (hostOps0 (F := Ideal)) V 81 (Proc.devRef .tc main_v76) = broadcastInDim S1x128x32x1x256 ![0, 1, 2, 4] bcast_S1x128x32x256_S1x128x32x1x256_0_1_2_4
      (addf (half 32 256 0 X shapeCasts_S1x128x16384_S1x128x32x2x256 slices_S1x128x32x2x256_S1x128x32x1x256_0_0_0_0_0 shapeCasts_S1x128x32x1x256_S1x128x32x256)
        (half 32 256 1 X shapeCasts_S1x128x16384_S1x128x32x2x256 slices_S1x128x32x2x256_S1x128x32x1x256_0_0_0_1_0 shapeCasts_S1x128x32x1x256_S1x128x32x256)) := by
    after_reads_simp [hX]
    rfl
  have hb : upto (hostOps0 (F := Ideal)) V 81 (Proc.devRef .tc main_v77) = broadcastInDim S1x128x32x1x256 ![0, 1, 2, 4] bcast_S1x128x32x256_S1x128x32x1x256_0_1_2_4
      (subf (half 32 256 0 X shapeCasts_S1x128x16384_S1x128x32x2x256 slices_S1x128x32x2x256_S1x128x32x1x256_0_0_0_0_0 shapeCasts_S1x128x32x1x256_S1x128x32x256)
        (half 32 256 1 X shapeCasts_S1x128x16384_S1x128x32x2x256 slices_S1x128x32x2x256_S1x128x32x1x256_0_0_0_1_0 shapeCasts_S1x128x32x1x256_S1x128x32x256)) := by
    after_reads_simp [hX]
    rfl
  after_reads_simp [hX]
  rw [ha, hb]
  rfl

theorem read_st7 (X : FVec Ideal S1x128x16384 .f32) (hX : upto (hostOps0 (F := Ideal)) V 83 (no_index (Proc.devRef .tc main_v79)) = X) :
    upto (hostOps0 (F := Ideal)) V 94 (no_index (Proc.devRef .tc main_v90)) = stageF 64 128 X shapeCasts_S1x128x16384_S1x128x64x2x128 slices_S1x128x64x2x128_S1x128x64x1x128_0_0_0_0_0
      slices_S1x128x64x2x128_S1x128x64x1x128_0_0_0_1_0 shapeCasts_S1x128x64x1x128_S1x128x64x128 bcast_S1x128x64x128_S1x128x64x1x128_0_1_2_4 concatenates_S1x128x64x1x128_S1x128x64x1x128_S1x128x64x2x128_d3 shapeCasts_S1x128x64x2x128_S1x128x16384 := by
  have ha : upto (hostOps0 (F := Ideal)) V 92 (Proc.devRef .tc main_v87) = broadcastInDim S1x128x64x1x128 ![0, 1, 2, 4] bcast_S1x128x64x128_S1x128x64x1x128_0_1_2_4
      (addf (half 64 128 0 X shapeCasts_S1x128x16384_S1x128x64x2x128 slices_S1x128x64x2x128_S1x128x64x1x128_0_0_0_0_0 shapeCasts_S1x128x64x1x128_S1x128x64x128)
        (half 64 128 1 X shapeCasts_S1x128x16384_S1x128x64x2x128 slices_S1x128x64x2x128_S1x128x64x1x128_0_0_0_1_0 shapeCasts_S1x128x64x1x128_S1x128x64x128)) := by
    after_reads_simp [hX]
    rfl
  have hb : upto (hostOps0 (F := Ideal)) V 92 (Proc.devRef .tc main_v88) = broadcastInDim S1x128x64x1x128 ![0, 1, 2, 4] bcast_S1x128x64x128_S1x128x64x1x128_0_1_2_4
      (subf (half 64 128 0 X shapeCasts_S1x128x16384_S1x128x64x2x128 slices_S1x128x64x2x128_S1x128x64x1x128_0_0_0_0_0 shapeCasts_S1x128x64x1x128_S1x128x64x128)
        (half 64 128 1 X shapeCasts_S1x128x16384_S1x128x64x2x128 slices_S1x128x64x2x128_S1x128x64x1x128_0_0_0_1_0 shapeCasts_S1x128x64x1x128_S1x128x64x128)) := by
    after_reads_simp [hX]
    rfl
  after_reads_simp [hX]
  rw [ha, hb]
  rfl

theorem read_st6 (X : FVec Ideal S1x128x16384 .f32) (hX : upto (hostOps0 (F := Ideal)) V 94 (no_index (Proc.devRef .tc main_v90)) = X) :
    upto (hostOps0 (F := Ideal)) V 105 (no_index (Proc.devRef .tc main_v101)) = stageF 128 64 X shapeCasts_S1x128x16384_S1x128x128x2x64 slices_S1x128x128x2x64_S1x128x128x1x64_0_0_0_0_0
      slices_S1x128x128x2x64_S1x128x128x1x64_0_0_0_1_0 shapeCasts_S1x128x128x1x64_S1x128x128x64 bcast_S1x128x128x64_S1x128x128x1x64_0_1_2_4 concatenates_S1x128x128x1x64_S1x128x128x1x64_S1x128x128x2x64_d3 shapeCasts_S1x128x128x2x64_S1x128x16384 := by
  have ha : upto (hostOps0 (F := Ideal)) V 103 (Proc.devRef .tc main_v98) = broadcastInDim S1x128x128x1x64 ![0, 1, 2, 4] bcast_S1x128x128x64_S1x128x128x1x64_0_1_2_4
      (addf (half 128 64 0 X shapeCasts_S1x128x16384_S1x128x128x2x64 slices_S1x128x128x2x64_S1x128x128x1x64_0_0_0_0_0 shapeCasts_S1x128x128x1x64_S1x128x128x64)
        (half 128 64 1 X shapeCasts_S1x128x16384_S1x128x128x2x64 slices_S1x128x128x2x64_S1x128x128x1x64_0_0_0_1_0 shapeCasts_S1x128x128x1x64_S1x128x128x64)) := by
    after_reads_simp [hX]
    rfl
  have hb : upto (hostOps0 (F := Ideal)) V 103 (Proc.devRef .tc main_v99) = broadcastInDim S1x128x128x1x64 ![0, 1, 2, 4] bcast_S1x128x128x64_S1x128x128x1x64_0_1_2_4
      (subf (half 128 64 0 X shapeCasts_S1x128x16384_S1x128x128x2x64 slices_S1x128x128x2x64_S1x128x128x1x64_0_0_0_0_0 shapeCasts_S1x128x128x1x64_S1x128x128x64)
        (half 128 64 1 X shapeCasts_S1x128x16384_S1x128x128x2x64 slices_S1x128x128x2x64_S1x128x128x1x64_0_0_0_1_0 shapeCasts_S1x128x128x1x64_S1x128x128x64)) := by
    after_reads_simp [hX]
    rfl
  after_reads_simp [hX]
  rw [ha, hb]
  rfl

theorem read_st5 (X : FVec Ideal S1x128x16384 .f32) (hX : upto (hostOps0 (F := Ideal)) V 105 (no_index (Proc.devRef .tc main_v101)) = X) :
    upto (hostOps0 (F := Ideal)) V 116 (no_index (Proc.devRef .tc main_v112)) = stageF 256 32 X shapeCasts_S1x128x16384_S1x128x256x2x32 slices_S1x128x256x2x32_S1x128x256x1x32_0_0_0_0_0
      slices_S1x128x256x2x32_S1x128x256x1x32_0_0_0_1_0 shapeCasts_S1x128x256x1x32_S1x128x256x32 bcast_S1x128x256x32_S1x128x256x1x32_0_1_2_4 concatenates_S1x128x256x1x32_S1x128x256x1x32_S1x128x256x2x32_d3 shapeCasts_S1x128x256x2x32_S1x128x16384 := by
  have ha : upto (hostOps0 (F := Ideal)) V 114 (Proc.devRef .tc main_v109) = broadcastInDim S1x128x256x1x32 ![0, 1, 2, 4] bcast_S1x128x256x32_S1x128x256x1x32_0_1_2_4
      (addf (half 256 32 0 X shapeCasts_S1x128x16384_S1x128x256x2x32 slices_S1x128x256x2x32_S1x128x256x1x32_0_0_0_0_0 shapeCasts_S1x128x256x1x32_S1x128x256x32)
        (half 256 32 1 X shapeCasts_S1x128x16384_S1x128x256x2x32 slices_S1x128x256x2x32_S1x128x256x1x32_0_0_0_1_0 shapeCasts_S1x128x256x1x32_S1x128x256x32)) := by
    after_reads_simp [hX]
    rfl
  have hb : upto (hostOps0 (F := Ideal)) V 114 (Proc.devRef .tc main_v110) = broadcastInDim S1x128x256x1x32 ![0, 1, 2, 4] bcast_S1x128x256x32_S1x128x256x1x32_0_1_2_4
      (subf (half 256 32 0 X shapeCasts_S1x128x16384_S1x128x256x2x32 slices_S1x128x256x2x32_S1x128x256x1x32_0_0_0_0_0 shapeCasts_S1x128x256x1x32_S1x128x256x32)
        (half 256 32 1 X shapeCasts_S1x128x16384_S1x128x256x2x32 slices_S1x128x256x2x32_S1x128x256x1x32_0_0_0_1_0 shapeCasts_S1x128x256x1x32_S1x128x256x32)) := by
    after_reads_simp [hX]
    rfl
  after_reads_simp [hX]
  rw [ha, hb]
  rfl

theorem read_st4 (X : FVec Ideal S1x128x16384 .f32) (hX : upto (hostOps0 (F := Ideal)) V 116 (no_index (Proc.devRef .tc main_v112)) = X) :
    upto (hostOps0 (F := Ideal)) V 127 (no_index (Proc.devRef .tc main_v123)) = stageF 512 16 X shapeCasts_S1x128x16384_S1x128x512x2x16 slices_S1x128x512x2x16_S1x128x512x1x16_0_0_0_0_0
      slices_S1x128x512x2x16_S1x128x512x1x16_0_0_0_1_0 shapeCasts_S1x128x512x1x16_S1x128x512x16 bcast_S1x128x512x16_S1x128x512x1x16_0_1_2_4 concatenates_S1x128x512x1x16_S1x128x512x1x16_S1x128x512x2x16_d3 shapeCasts_S1x128x512x2x16_S1x128x16384 := by
  have ha : upto (hostOps0 (F := Ideal)) V 125 (Proc.devRef .tc main_v120) = broadcastInDim S1x128x512x1x16 ![0, 1, 2, 4] bcast_S1x128x512x16_S1x128x512x1x16_0_1_2_4
      (addf (half 512 16 0 X shapeCasts_S1x128x16384_S1x128x512x2x16 slices_S1x128x512x2x16_S1x128x512x1x16_0_0_0_0_0 shapeCasts_S1x128x512x1x16_S1x128x512x16)
        (half 512 16 1 X shapeCasts_S1x128x16384_S1x128x512x2x16 slices_S1x128x512x2x16_S1x128x512x1x16_0_0_0_1_0 shapeCasts_S1x128x512x1x16_S1x128x512x16)) := by
    after_reads_simp [hX]
    rfl
  have hb : upto (hostOps0 (F := Ideal)) V 125 (Proc.devRef .tc main_v121) = broadcastInDim S1x128x512x1x16 ![0, 1, 2, 4] bcast_S1x128x512x16_S1x128x512x1x16_0_1_2_4
      (subf (half 512 16 0 X shapeCasts_S1x128x16384_S1x128x512x2x16 slices_S1x128x512x2x16_S1x128x512x1x16_0_0_0_0_0 shapeCasts_S1x128x512x1x16_S1x128x512x16)
        (half 512 16 1 X shapeCasts_S1x128x16384_S1x128x512x2x16 slices_S1x128x512x2x16_S1x128x512x1x16_0_0_0_1_0 shapeCasts_S1x128x512x1x16_S1x128x512x16)) := by
    after_reads_simp [hX]
    rfl
  after_reads_simp [hX]
  rw [ha, hb]
  rfl

theorem read_st3 (X : FVec Ideal S1x128x16384 .f32) (hX : upto (hostOps0 (F := Ideal)) V 127 (no_index (Proc.devRef .tc main_v123)) = X) :
    upto (hostOps0 (F := Ideal)) V 138 (no_index (Proc.devRef .tc main_v134)) = stageF 1024 8 X shapeCasts_S1x128x16384_S1x128x1024x2x8 slices_S1x128x1024x2x8_S1x128x1024x1x8_0_0_0_0_0
      slices_S1x128x1024x2x8_S1x128x1024x1x8_0_0_0_1_0 shapeCasts_S1x128x1024x1x8_S1x128x1024x8 bcast_S1x128x1024x8_S1x128x1024x1x8_0_1_2_4 concatenates_S1x128x1024x1x8_S1x128x1024x1x8_S1x128x1024x2x8_d3 shapeCasts_S1x128x1024x2x8_S1x128x16384 := by
  have ha : upto (hostOps0 (F := Ideal)) V 136 (Proc.devRef .tc main_v131) = broadcastInDim S1x128x1024x1x8 ![0, 1, 2, 4] bcast_S1x128x1024x8_S1x128x1024x1x8_0_1_2_4
      (addf (half 1024 8 0 X shapeCasts_S1x128x16384_S1x128x1024x2x8 slices_S1x128x1024x2x8_S1x128x1024x1x8_0_0_0_0_0 shapeCasts_S1x128x1024x1x8_S1x128x1024x8)
        (half 1024 8 1 X shapeCasts_S1x128x16384_S1x128x1024x2x8 slices_S1x128x1024x2x8_S1x128x1024x1x8_0_0_0_1_0 shapeCasts_S1x128x1024x1x8_S1x128x1024x8)) := by
    after_reads_simp [hX]
    rfl
  have hb : upto (hostOps0 (F := Ideal)) V 136 (Proc.devRef .tc main_v132) = broadcastInDim S1x128x1024x1x8 ![0, 1, 2, 4] bcast_S1x128x1024x8_S1x128x1024x1x8_0_1_2_4
      (subf (half 1024 8 0 X shapeCasts_S1x128x16384_S1x128x1024x2x8 slices_S1x128x1024x2x8_S1x128x1024x1x8_0_0_0_0_0 shapeCasts_S1x128x1024x1x8_S1x128x1024x8)
        (half 1024 8 1 X shapeCasts_S1x128x16384_S1x128x1024x2x8 slices_S1x128x1024x2x8_S1x128x1024x1x8_0_0_0_1_0 shapeCasts_S1x128x1024x1x8_S1x128x1024x8)) := by
    after_reads_simp [hX]
    rfl
  after_reads_simp [hX]
  rw [ha, hb]
  rfl

theorem read_st2 (X : FVec Ideal S1x128x16384 .f32) (hX : upto (hostOps0 (F := Ideal)) V 138 (no_index (Proc.devRef .tc main_v134)) = X) :
    upto (hostOps0 (F := Ideal)) V 149 (no_index (Proc.devRef .tc main_v145)) = stageF 2048 4 X shapeCasts_S1x128x16384_S1x128x2048x2x4 slices_S1x128x2048x2x4_S1x128x2048x1x4_0_0_0_0_0
      slices_S1x128x2048x2x4_S1x128x2048x1x4_0_0_0_1_0 shapeCasts_S1x128x2048x1x4_S1x128x2048x4 bcast_S1x128x2048x4_S1x128x2048x1x4_0_1_2_4 concatenates_S1x128x2048x1x4_S1x128x2048x1x4_S1x128x2048x2x4_d3 shapeCasts_S1x128x2048x2x4_S1x128x16384 := by
  have ha : upto (hostOps0 (F := Ideal)) V 147 (Proc.devRef .tc main_v142) = broadcastInDim S1x128x2048x1x4 ![0, 1, 2, 4] bcast_S1x128x2048x4_S1x128x2048x1x4_0_1_2_4
      (addf (half 2048 4 0 X shapeCasts_S1x128x16384_S1x128x2048x2x4 slices_S1x128x2048x2x4_S1x128x2048x1x4_0_0_0_0_0 shapeCasts_S1x128x2048x1x4_S1x128x2048x4)
        (half 2048 4 1 X shapeCasts_S1x128x16384_S1x128x2048x2x4 slices_S1x128x2048x2x4_S1x128x2048x1x4_0_0_0_1_0 shapeCasts_S1x128x2048x1x4_S1x128x2048x4)) := by
    after_reads_simp [hX]
    rfl
  have hb : upto (hostOps0 (F := Ideal)) V 147 (Proc.devRef .tc main_v143) = broadcastInDim S1x128x2048x1x4 ![0, 1, 2, 4] bcast_S1x128x2048x4_S1x128x2048x1x4_0_1_2_4
      (subf (half 2048 4 0 X shapeCasts_S1x128x16384_S1x128x2048x2x4 slices_S1x128x2048x2x4_S1x128x2048x1x4_0_0_0_0_0 shapeCasts_S1x128x2048x1x4_S1x128x2048x4)
        (half 2048 4 1 X shapeCasts_S1x128x16384_S1x128x2048x2x4 slices_S1x128x2048x2x4_S1x128x2048x1x4_0_0_0_1_0 shapeCasts_S1x128x2048x1x4_S1x128x2048x4)) := by
    after_reads_simp [hX]
    rfl
  after_reads_simp [hX]
  rw [ha, hb]
  rfl

theorem read_st1 (X : FVec Ideal S1x128x16384 .f32) (hX : upto (hostOps0 (F := Ideal)) V 149 (no_index (Proc.devRef .tc main_v145)) = X) :
    upto (hostOps0 (F := Ideal)) V 160 (no_index (Proc.devRef .tc main_v156)) = stageF 4096 2 X shapeCasts_S1x128x16384_S1x128x4096x2x2 slices_S1x128x4096x2x2_S1x128x4096x1x2_0_0_0_0_0
      slices_S1x128x4096x2x2_S1x128x4096x1x2_0_0_0_1_0 shapeCasts_S1x128x4096x1x2_S1x128x4096x2 bcast_S1x128x4096x2_S1x128x4096x1x2_0_1_2_4 concatenates_S1x128x4096x1x2_S1x128x4096x1x2_S1x128x4096x2x2_d3 shapeCasts_S1x128x4096x2x2_S1x128x16384 := by
  have ha : upto (hostOps0 (F := Ideal)) V 158 (Proc.devRef .tc main_v153) = broadcastInDim S1x128x4096x1x2 ![0, 1, 2, 4] bcast_S1x128x4096x2_S1x128x4096x1x2_0_1_2_4
      (addf (half 4096 2 0 X shapeCasts_S1x128x16384_S1x128x4096x2x2 slices_S1x128x4096x2x2_S1x128x4096x1x2_0_0_0_0_0 shapeCasts_S1x128x4096x1x2_S1x128x4096x2)
        (half 4096 2 1 X shapeCasts_S1x128x16384_S1x128x4096x2x2 slices_S1x128x4096x2x2_S1x128x4096x1x2_0_0_0_1_0 shapeCasts_S1x128x4096x1x2_S1x128x4096x2)) := by
    after_reads_simp [hX]
    rfl
  have hb : upto (hostOps0 (F := Ideal)) V 158 (Proc.devRef .tc main_v154) = broadcastInDim S1x128x4096x1x2 ![0, 1, 2, 4] bcast_S1x128x4096x2_S1x128x4096x1x2_0_1_2_4
      (subf (half 4096 2 0 X shapeCasts_S1x128x16384_S1x128x4096x2x2 slices_S1x128x4096x2x2_S1x128x4096x1x2_0_0_0_0_0 shapeCasts_S1x128x4096x1x2_S1x128x4096x2)
        (half 4096 2 1 X shapeCasts_S1x128x16384_S1x128x4096x2x2 slices_S1x128x4096x2x2_S1x128x4096x1x2_0_0_0_1_0 shapeCasts_S1x128x4096x1x2_S1x128x4096x2)) := by
    after_reads_simp [hX]
    rfl
  after_reads_simp [hX]
  rw [ha, hb]
  rfl

theorem read_st0 (X : FVec Ideal S1x128x16384 .f32) (hX : upto (hostOps0 (F := Ideal)) V 160 (no_index (Proc.devRef .tc main_v156)) = X) :
    upto (hostOps0 (F := Ideal)) V 173 (no_index (Proc.devRef .tc main_v167)) = stageF 8192 1 X shapeCasts_S1x128x16384_S1x128x8192x2x1 slices_S1x128x8192x2x1_S1x128x8192x1x1_0_0_0_0_0
      slices_S1x128x8192x2x1_S1x128x8192x1x1_0_0_0_1_0 shapeCasts_S1x128x8192x1x1_S1x128x8192x1 bcast_S1x128x8192x1_S1x128x8192x1x1_0_1_2_4 concatenates_S1x128x8192x1x1_S1x128x8192x1x1_S1x128x8192x2x1_d3 shapeCasts_S1x128x8192x2x1_S1x128x16384 := by
  have ha : upto (hostOps0 (F := Ideal)) V 169 (Proc.devRef .tc main_v164) = broadcastInDim S1x128x8192x1x1 ![0, 1, 2, 4] bcast_S1x128x8192x1_S1x128x8192x1x1_0_1_2_4
      (addf (half 8192 1 0 X shapeCasts_S1x128x16384_S1x128x8192x2x1 slices_S1x128x8192x2x1_S1x128x8192x1x1_0_0_0_0_0 shapeCasts_S1x128x8192x1x1_S1x128x8192x1)
        (half 8192 1 1 X shapeCasts_S1x128x16384_S1x128x8192x2x1 slices_S1x128x8192x2x1_S1x128x8192x1x1_0_0_0_1_0 shapeCasts_S1x128x8192x1x1_S1x128x8192x1)) := by
    after_reads_simp [hX]
    rfl
  have hb : upto (hostOps0 (F := Ideal)) V 169 (Proc.devRef .tc main_v165) = broadcastInDim S1x128x8192x1x1 ![0, 1, 2, 4] bcast_S1x128x8192x1_S1x128x8192x1x1_0_1_2_4
      (subf (half 8192 1 0 X shapeCasts_S1x128x16384_S1x128x8192x2x1 slices_S1x128x8192x2x1_S1x128x8192x1x1_0_0_0_0_0 shapeCasts_S1x128x8192x1x1_S1x128x8192x1)
        (half 8192 1 1 X shapeCasts_S1x128x16384_S1x128x8192x2x1 slices_S1x128x8192x2x1_S1x128x8192x1x1_0_0_0_1_0 shapeCasts_S1x128x8192x1x1_S1x128x8192x1)) := by
    after_reads_simp [hX]
    rfl
  after_reads_simp [hX]
  rw [ha, hb]
  rfl

theorem read_row (X : FVec Ideal S1x128x16384 .f32) (hX : upto (hostOps0 (F := Ideal)) V 173 (no_index (Proc.devRef .tc main_v167)) = X) :
    after (hostOps0 (F := Ideal)) V (Proc.devRef .tc main_v202)
      = shapeCast S128x16384 (mulf X (broadcastInDim S1x128x16384 ![] bcast_S_S1x128x16384 (constant S_ .f32 0x3C000000#32))) shapeCasts_S1x128x16384_S128x16384 := by
  after_reads_simp [hX]
  rfl

theorem read_w0 : after (hostOps0 (F := Ideal)) V (Proc.devRef .tc main_v177) = wF 0#32 (V (Proc.devRef .tc main_arg2)) := by
  after_reads_simp
  rfl

theorem read_w1 : after (hostOps0 (F := Ideal)) V (Proc.devRef .tc main_v185) = wF 2#32 (V (Proc.devRef .tc main_arg2)) := by
  after_reads_simp
  rfl

theorem read_w2 : after (hostOps0 (F := Ideal)) V (Proc.devRef .tc main_v193) = wF 4#32 (V (Proc.devRef .tc main_arg2)) := by
  after_reads_simp
  rfl

theorem read_w3 : after (hostOps0 (F := Ideal)) V (Proc.devRef .tc main_v201) = wF 6#32 (V (Proc.devRef .tc main_arg2)) := by
  after_reads_simp
  rfl

end Cert.ReferenceIdeal.Val
-- ==== Proof.RefRow.lean ====
/- The rows the reference's host operations leave. -/
module

public import proofs.«01_k».proof.Proof.RefHost

@[expose] public section

set_option maxRecDepth 16384

noncomputable section

namespace Cert.ReferenceIdeal.Val

open Idealize.ShloMosaic Idealize.ShloMosaic.TcCoe Idealize.ShloMosaic.Tactic Idealize.ShloMosaic.StableHlo
open Cert.ReferenceIdeal Cert.ReferenceIdeal.Gen Cert.Proof

theorem sum_apply (v : FVec Ideal S1x128x16384 .f32) (r : Fin 128) :
    Host.reduceAdd v (constant S_ .f32 0x00000000#32) reducesTo_S1x128x16384_S1x128_d2 h_S_ (ix2 0 r) = ∑ u : Fin 16384, (v (ix3 0 r u) : EReal) := by
  have h : S1x128x16384.Reduces [2] S1x128 := by decide
  refine Eq.trans (b := Ideal.hostReduceAdd reducesTo_S1x128x16384_S1x128_d2 v (constant (F := Ideal) S_ .f32 0x00000000#32 (Shape.Idx.first h_S_)) (ix2 0 r)) rfl ((Ideal.hostReduceAdd_single reducesTo_S1x128x16384_S1x128_d2 h v _ _).trans ?_)
  refine (congrArg (· + _) (show constant (F := Ideal) S_ .f32 0x00000000#32 (Shape.Idx.first h_S_) = (0 : EReal) from Ideal.ofBits_zero_f32)).trans ?_
  rw [zero_add]
  refine Finset.sum_congr rfl fun u _ => congrArg v (funext fun a => Fin.ext ?_)
  match a with
  | ⟨0, _⟩ => rfl
  | ⟨1, _⟩ => rfl
  | ⟨2, _⟩ => rfl

theorem nrmF_apply (x : FVec Ideal S1x128x16384 .bf16) (g : FVec Ideal S16384 .f32) (r : Fin 128) (p : Fin 16384) :
    nrmF x g (ix3 0 r p) = nrmE (fun u => x (ix3 0 r u)) (fun u => g (ix1 u)) p.val := by
  unfold nrmE
  rw [dif_pos p.isLt]
  have e1 : ∀ R : FVec Ideal S1x128x1 .f32, broadcastInDim S1x128x16384 ![0, 1, 2] bcast_S1x128x1_S1x128x16384_0_1_2 R (ix3 0 r p) = R (ix3 0 r 0) := fun R => by
    refine broadcastInDim_apply _ _ R _ _ fun a => ?_
    match a with
    | ⟨0, _⟩ => rfl
    | ⟨1, _⟩ => rfl
    | ⟨2, _⟩ => rfl
  have e2 : ∀ R : FVec Ideal S1x1x16384 .f32, broadcastInDim S1x128x16384 ![0, 1, 2] bcast_S1x1x16384_S1x128x16384_0_1_2 R (ix3 0 r p) = R (ix3 0 0 p) := fun R => by
    refine broadcastInDim_apply _ _ R _ _ fun a => ?_
    match a with
    | ⟨0, _⟩ => rfl
    | ⟨1, _⟩ => rfl
    | ⟨2, _⟩ => rfl
  have e3 : broadcastInDim S1x1x16384 ![2] bcast_S16384_S1x1x16384_2 g (ix3 0 0 p) = g (ix1 p) := by
    refine broadcastInDim_apply _ _ g _ _ fun a => ?_
    match a with
    | ⟨0, _⟩ => rfl
  have e4 : ∀ R : FVec Ideal S1x128 .f32, broadcastInDim S1x128x1 ![0, 1] bcast_S1x128_S1x128x1_0_1 R (ix3 0 r 0) = R (ix2 0 r) := fun R => by
    refine broadcastInDim_apply _ _ R _ _ fun a => ?_
    match a with
    | ⟨0, _⟩ => rfl
    | ⟨1, _⟩ => rfl
  have e5 : ∀ b : BitVec 32, broadcastInDim S1x128x1 ![] bcast_S_S1x128x1 (constant S_ .f32 b : FVec Ideal S_ .f32) (ix3 0 r 0) = Ideal.ofBits .f32 b := fun b => rfl
  have es : Host.reduceAdd (mulf (extf .f32 x bitsLt_bf16_f32) (extf .f32 x bitsLt_bf16_f32)) (constant S_ .f32 0x00000000#32) reducesTo_S1x128x16384_S1x128_d2 h_S_ (ix2 0 r)
      = ∑ u : Fin 16384, (x (ix3 0 r u) : EReal) * (x (ix3 0 r u) : EReal) := sum_apply _ r
  unfold nrmF
  generalize Host.reduceAdd (mulf (extf .f32 x bitsLt_bf16_f32) (extf .f32 x bitsLt_bf16_f32)) (constant S_ .f32 0x00000000#32) reducesTo_S1x128x16384_S1x128_d2 h_S_ = T at es
  refine congr (congrArg (fun a b : EReal => a * b) ?_) ((e2 _).trans e3)
  refine congr (congrArg (fun a b : EReal => a * b) rfl) ((e1 _).trans ?_)
  refine congrArg Ideal.rsqrt (congr (congrArg (fun a b : EReal => a + b) ?_) (e5 0x3727C5AC#32))
  exact congrArg₂ Ideal.div ((e4 T).trans es) (e5 0x46800000#32)

variable (V : Valuation τ sig (Elt Ideal))

/-- Row `r` of the transform of the arguments. -/
abbrev hRow (x : Vec Ideal S1x128x16384 .bf16) (g : Vec Ideal S16384 .f32) (r : Fin 128) : ℕ → EReal :=
  hadE (fun u => x (ix3 0 r u)) (fun u => g (ix1 u))

theorem row_apply (r : Fin 128) (p : Fin 16384) :
    (after (hostOps0 (F := Ideal)) V (Proc.devRef .tc main_v202) : Vec Ideal S128x16384 .f32) (ix2 r p)
      = hRow (V (Proc.devRef .tc main_arg0)) (V (Proc.devRef .tc main_arg1)) r p.val := by
  have e := read_row V _ (read_st0 V _ (read_st1 V _ (read_st2 V _ (read_st3 V _ (read_st4 V _ (read_st5 V _ (read_st6 V _ (read_st7 V _
    (read_st8 V _ (read_st9 V _ (read_st10 V _ (read_st11 V _ (read_st12 V _ (read_st13 V _ (read_nrm V)))))))))))))))
  refine (congrFun e (ix2 r p)).trans ?_
  refine (shapeCast_apply _ shapeCasts_S1x128x16384_S128x16384 (ix2 r p) (ix3 0 r p) ?_).trans ?_
  · refine (Shape.rowMajor_val_three _).trans (Eq.trans ?_ (Shape.rowMajor_val_two _).symm)
    show (0 * 128 + r.val) * 16384 + p.val = r.val * 16384 + p.val
    rw [zero_mul, zero_add]
  unfold hRow hadE lowE up6 up3
  refine congr (congrArg (fun a b : EReal => a * b) ?_) rfl
  refine stageF_apply' _ 0 _ (by norm_num) _ _ _ _ _ _ _ _ (by norm_num) r _ (fun p => ?_) p
  refine stageF_apply' _ 1 _ (by norm_num) _ _ _ _ _ _ _ _ (by norm_num) r _ (fun p => ?_) p
  refine stageF_apply' _ 2 _ (by norm_num) _ _ _ _ _ _ _ _ (by norm_num) r _ (fun p => ?_) p
  refine stageF_apply' _ 3 _ (by norm_num) _ _ _ _ _ _ _ _ (by norm_num) r _ (fun p => ?_) p
  refine stageF_apply' _ 4 _ (by norm_num) _ _ _ _ _ _ _ _ (by norm_num) r _ (fun p => ?_) p
  refine stageF_apply' _ 5 _ (by norm_num) _ _ _ _ _ _ _ _ (by norm_num) r _ (fun p => ?_) p
  refine stageF_apply' _ 6 _ (by norm_num) _ _ _ _ _ _ _ _ (by norm_num) r _ (fun p => ?_) p
  refine stageF_apply' _ 7 _ (by norm_num) _ _ _ _ _ _ _ _ (by norm_num) r _ (fun p => ?_) p
  refine stageF_apply' _ 8 _ (by norm_num) _ _ _ _ _ _ _ _ (by norm_num) r _ (fun p => ?_) p
  refine stageF_apply' _ 9 _ (by norm_num) _ _ _ _ _ _ _ _ (by norm_num) r _ (fun p => ?_) p
  refine stageF_apply' _ 10 _ (by norm_num) _ _ _ _ _ _ _ _ (by norm_num) r _ (fun p => ?_) p
  refine stageF_apply' _ 11 _ (by norm_num) _ _ _ _ _ _ _ _ (by norm_num) r _ (fun p => ?_) p
  refine stageF_apply' _ 12 _ (by norm_num) _ _ _ _ _ _ _ _ (by norm_num) r _ (fun p => ?_) p
  refine stageF_apply' _ 13 _ (by norm_num) _ _ _ _ _ _ _ _ (by norm_num) r _ (fun p => ?_) p
  exact nrmF_apply _ _ r p

theorem wF_apply (f : Fin 4) (c : BitVec 32) (hc : c = BitVec.ofNat 32 (2 * f.val)) (w : IVec S4096x7168 8) (i : S4096x7168.Idx) :
    (((wF c w i).toInt : ℝ) : EReal) = ((ternE f.val (w i) : ℝ) : EReal) := by
  have e : wF c w i = ((((w i).setWidth 32).sshiftRight (2 * f.val) &&& 3#32) - 1#32).setWidth 8 := by
    subst hc
    match f with
    | ⟨0, _⟩ => rfl
    | ⟨1, _⟩ => rfl
    | ⟨2, _⟩ => rfl
    | ⟨3, _⟩ => rfl
  unfold ternE
  rw [e, ref_field]

end Cert.ReferenceIdeal.Val
-- ==== Proof.RefEntry.lean ====
/- What the reference's call finds in its arrays. -/
module

public import proofs.«01_k».proof.Proof.RefOut
public import proofs.«01_k».proof.Proof.RefRow

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx ix2_eta qR qR_coe wCol yOut codesOut scaleOut aRow)

variable (m : (ℓ : Loc nD τ sig) → Buf (Elt Ideal) ℓ) (c : Dev nD)

theorem V_eq (b : Ref sig .tc) : V m c b = StableHlo.after (hostOps0 (F := Ideal)) (fun b => m (c, b)) (Proc.devRef .tc b) := by
  unfold V V0
  rw [List.flatten_singleton]

end Cert.ReferenceIdeal.Val
-- ==== Proof.RefIn.lean ====
/- The blocks the reference's call reads. -/
module

public import proofs.«01_k».proof.Proof.RefOut
public import proofs.«01_k».proof.Proof.RefEntry
public import proofs.«01_k».proof.Proof.RefRow

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx ix2_eta qR qR_coe wCol yOut codesOut scaleOut aRow)

variable (m : (ℓ : Loc nD τ sig) → Buf (Elt Ideal) ℓ) (c : Dev nD)

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)

/-- A window's block of an array. -/
def blkV (Vg : (c : Dev nD) → (b : Ref sig .tc) → Buf (Elt Ideal) ((c : Thread nD τ).loc b)) (c : Dev nD) (w : Fin cfg0.W) (t : Fin cfg0.N) :
    ((cfg0.win w).xblock (cfg0.grid.coords t)).Idx → Elt Ideal (cfg0.win w).elt :=
  ((cfg0.win w).blk t).view.read (Elt Ideal) (Vg c (Pipeline.arrRef spec0 w))

section Blocks
variable (Vg : (c : Dev nD) → (b : Ref sig .tc) → Buf (Elt Ideal) ((c : Thread nD τ).loc b))

theorem b0 (t : Fin cfg0.N) (r : Fin 128) (p : Fin 16384) :
    (blkV Vg c 0 t : Vec Ideal S128x16384 .f32) (ix2 r p) = (Vg c main_v202 : Vec Ideal S128x16384 .f32) (ix2 r p) := by
  blk_simp [blkV]
  refine congrArg (Vg c main_v202) ?_
  blk_ext [i0]

theorem b1 (t : Fin cfg0.N) (u : Fin 4096) (j : Fin 7168) :
    (blkV Vg c 1 t : Vec Ideal S4096x7168 .i8) (ix2 u j) = (Vg c main_v177 : Vec Ideal S4096x7168 .i8) (ix2 u j) := by
  blk_simp [blkV]
  refine congrArg (Vg c main_v177) ?_
  blk_ext [i1]

theorem b2 (t : Fin cfg0.N) (u : Fin 4096) (j : Fin 7168) :
    (blkV Vg c 2 t : Vec Ideal S4096x7168 .i8) (ix2 u j) = (Vg c main_v185 : Vec Ideal S4096x7168 .i8) (ix2 u j) := by
  blk_simp [blkV]
  refine congrArg (Vg c main_v185) ?_
  blk_ext [i2]

theorem b3 (t : Fin cfg0.N) (u : Fin 4096) (j : Fin 7168) :
    (blkV Vg c 3 t : Vec Ideal S4096x7168 .i8) (ix2 u j) = (Vg c main_v193 : Vec Ideal S4096x7168 .i8) (ix2 u j) := by
  blk_simp [blkV]
  refine congrArg (Vg c main_v193) ?_
  blk_ext [i3]

theorem b4 (t : Fin cfg0.N) (u : Fin 4096) (j : Fin 7168) :
    (blkV Vg c 4 t : Vec Ideal S4096x7168 .i8) (ix2 u j) = (Vg c main_v201 : Vec Ideal S4096x7168 .i8) (ix2 u j) := by
  blk_simp [blkV]
  refine congrArg (Vg c main_v201) ?_
  blk_ext [i4]

theorem b5 (t : Fin cfg0.N) :
    (blkV Vg c 5 t : Vec Ideal S1 .f32) (ix1 0) = (Vg c main_arg3 : Vec Ideal S1 .f32) (ix1 0) := by
  blk_simp [blkV]
  refine congrArg (Vg c main_arg3) ?_
  blk_ext [i5]

end Blocks

theorem iblk_eq (w : Fin cfg0.W) (t : Fin cfg0.N) : iblk m c w t = blkV (V m) c w t := by
  unfold iblk blkV
  rfl

theorem in0 (t : Fin cfg0.N) (r : Fin 128) :
    IsRow (iblk m c 0 t) r (aRow (m ((c : Thread nD τ).loc main_arg0)) (m ((c : Thread nD τ).loc main_arg1)) r) := fun p => by
  refine Eq.trans (b := (V m c main_v202 : Vec Ideal S128x16384 .f32) (ix2 r p)) ?_ ((congrFun (V_eq m c main_v202) (ix2 r p)).trans (row_apply _ r p))
  exact (congrFun (iblk_eq m c 0 t) _).trans (b0 c (V m) t r p)

theorem wcol_eq (w : Vec Ideal S4096x7168 .i8) (u : Fin 4096) (j : Fin 7168) : wCol w j u.val = w (ix2 u j) := by
  unfold wCol
  rw [dif_pos u.isLt]

theorem in1 (t : Fin cfg0.N) (u : Fin 4096) (j : Fin 7168) :
    (((((iblk m c 1 t : Vec Ideal S4096x7168 .i8) (ix2 u j)).toInt : ℝ)) : EReal) = ((ternE 0 (wCol (m ((c : Thread nD τ).loc main_arg2)) j u.val) : ℝ) : EReal) := by
  rw [wcol_eq]
  refine Eq.trans (congrArg (fun z : BitVec 8 => ((z.toInt : ℝ) : EReal)) ?_) (wF_apply 0 0#32 rfl _ (ix2 u j))
  refine Eq.trans (b := (V m c main_v177 : Vec Ideal S4096x7168 .i8) (ix2 u j)) ?_ (congrFun ((V_eq m c main_v177).trans (read_w0 _)) (ix2 u j))
  exact (congrFun (iblk_eq m c 1 t) _).trans (b1 c (V m) t u j)

theorem in2 (t : Fin cfg0.N) (u : Fin 4096) (j : Fin 7168) :
    (((((iblk m c 2 t : Vec Ideal S4096x7168 .i8) (ix2 u j)).toInt : ℝ)) : EReal) = ((ternE 1 (wCol (m ((c : Thread nD τ).loc main_arg2)) j u.val) : ℝ) : EReal) := by
  rw [wcol_eq]
  refine Eq.trans (congrArg (fun z : BitVec 8 => ((z.toInt : ℝ) : EReal)) ?_) (wF_apply 1 2#32 rfl _ (ix2 u j))
  refine Eq.trans (b := (V m c main_v185 : Vec Ideal S4096x7168 .i8) (ix2 u j)) ?_ (congrFun ((V_eq m c main_v185).trans (read_w1 _)) (ix2 u j))
  exact (congrFun (iblk_eq m c 2 t) _).trans (b2 c (V m) t u j)

theorem in3 (t : Fin cfg0.N) (u : Fin 4096) (j : Fin 7168) :
    (((((iblk m c 3 t : Vec Ideal S4096x7168 .i8) (ix2 u j)).toInt : ℝ)) : EReal) = ((ternE 2 (wCol (m ((c : Thread nD τ).loc main_arg2)) j u.val) : ℝ) : EReal) := by
  rw [wcol_eq]
  refine Eq.trans (congrArg (fun z : BitVec 8 => ((z.toInt : ℝ) : EReal)) ?_) (wF_apply 2 4#32 rfl _ (ix2 u j))
  refine Eq.trans (b := (V m c main_v193 : Vec Ideal S4096x7168 .i8) (ix2 u j)) ?_ (congrFun ((V_eq m c main_v193).trans (read_w2 _)) (ix2 u j))
  exact (congrFun (iblk_eq m c 3 t) _).trans (b3 c (V m) t u j)

theorem in4 (t : Fin cfg0.N) (u : Fin 4096) (j : Fin 7168) :
    (((((iblk m c 4 t : Vec Ideal S4096x7168 .i8) (ix2 u j)).toInt : ℝ)) : EReal) = ((ternE 3 (wCol (m ((c : Thread nD τ).loc main_arg2)) j u.val) : ℝ) : EReal) := by
  rw [wcol_eq]
  refine Eq.trans (congrArg (fun z : BitVec 8 => ((z.toInt : ℝ) : EReal)) ?_) (wF_apply 3 6#32 rfl _ (ix2 u j))
  refine Eq.trans (b := (V m c main_v201 : Vec Ideal S4096x7168 .i8) (ix2 u j)) ?_ (congrFun ((V_eq m c main_v201).trans (read_w3 _)) (ix2 u j))
  exact (congrFun (iblk_eq m c 4 t) _).trans (b4 c (V m) t u j)

theorem in5 (t : Fin cfg0.N) :
    (iblk m c 5 t : Vec Ideal S1 .f32) (ix1 0) = (m ((c : Thread nD τ).loc main_arg3) : Vec Ideal S1 .f32) (ix1 0) := by
  refine Eq.trans (b := (V m c main_arg3 : Vec Ideal S1 .f32) (ix1 0)) ?_ (congrFun (V_main_arg3 m c) (ix1 0))
  exact (congrFun (iblk_eq m c 5 t) _).trans (b5 c (V m) t)

end Cert.ReferenceIdeal.Val
-- ==== Proof.RefOuts.lean ====
/- What the reference's call stores, from the arguments. -/
module

public import proofs.«01_k».proof.Proof.RefIn

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx qR qR_coe wCol yOut codesOut scaleOut aRow)

variable (m : (ℓ : Loc nD τ sig) → Buf (Elt Ideal) ℓ) (c : Dev nD)

theorem fst_of {α β γ : Type} {z : α × β × γ} {x : α} {y : β} {w : γ} (h : z = (x, y, w)) : z.1 = x := by rw [h]
theorem mid_of {α β γ : Type} {z : α × β × γ} {x : α} {y : β} {w : γ} (h : z = (x, y, w)) : z.2.1 = y := by rw [h]
theorem snd_of {α β γ : Type} {z : α × β × γ} {x : α} {y : β} {w : γ} (h : z = (x, y, w)) : z.2.2 = w := by rw [h]

theorem outs_eq (t : Fin cfg0.N) : outsAt0 m c t = (out0_A_6 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t),
    out0_A_7 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t),
    out0_A_8 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t)) := by
  unfold outsAt0
  with_reducible rfl

theorem outs_codes (t : Fin cfg0.N) (r : Fin 128) (p : Fin 16384) : (outsAt0 m c t).2.1 (ix2 r p) = Ideal.fptosi 8 (qE (aRow (m ((c : Thread nD τ).loc main_arg0)) (m ((c : Thread nD τ).loc main_arg1)) r) p.val) := by
  refine (congrFun (mid_of (outs_eq m c t)) (ix2 r p)).trans ?_
  have hx := in0 m c t r
  generalize (aRow (m ((c : Thread nD τ).loc main_arg0)) (m ((c : Thread nD τ).loc main_arg1)) r) = h at hx ⊢
  generalize iblk m c 0 t = x0 at hx ⊢
  generalize iblk m c 1 t = x1
  generalize iblk m c 2 t = x2
  generalize iblk m c 3 t = x3
  generalize iblk m c 4 t = x4
  generalize iblk m c 5 t = x5
  exact out_codes c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 r h hx p

theorem outs_scale (t : Fin cfg0.N) (r : Fin 128) : (outsAt0 m c t).2.2 (ix2 r 0) = sclE (aRow (m ((c : Thread nD τ).loc main_arg0)) (m ((c : Thread nD τ).loc main_arg1)) r) := by
  refine (congrFun (snd_of (outs_eq m c t)) (ix2 r 0)).trans ?_
  have hx := in0 m c t r
  generalize (aRow (m ((c : Thread nD τ).loc main_arg0)) (m ((c : Thread nD τ).loc main_arg1)) r) = h at hx ⊢
  generalize iblk m c 0 t = x0 at hx ⊢
  generalize iblk m c 1 t = x1
  generalize iblk m c 2 t = x2
  generalize iblk m c 3 t = x3
  generalize iblk m c 4 t = x4
  generalize iblk m c 5 t = x5
  exact out_scale c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 r h hx

theorem outs_y (t : Fin cfg0.N) (r : Fin 128) (j : Fin 7168) : (outsAt0 m c t).1 (ix2 r j)
    = yVal (qR (aRow (m ((c : Thread nD τ).loc main_arg0)) (m ((c : Thread nD τ).loc main_arg1)) r)) (wCol (m ((c : Thread nD τ).loc main_arg2)) j) (sclE (aRow (m ((c : Thread nD τ).loc main_arg0)) (m ((c : Thread nD τ).loc main_arg1)) r)) ((m ((c : Thread nD τ).loc main_arg3) : Vec Ideal S1 .f32) (ix1 0)) := by
  refine (congrFun (fst_of (outs_eq m c t)) (ix2 r j)).trans ?_
  rw [← in5 m c t]
  have hx := in0 m c t r
  have h1 := fun u => in1 m c t u j
  have h2 := fun u => in2 m c t u j
  have h3 := fun u => in3 m c t u j
  have h4 := fun u => in4 m c t u j
  generalize (aRow (m ((c : Thread nD τ).loc main_arg0)) (m ((c : Thread nD τ).loc main_arg1)) r) = h at hx ⊢
  generalize (wCol (m ((c : Thread nD τ).loc main_arg2)) j) = b at h1 h2 h3 h4 ⊢
  generalize iblk m c 0 t = x0 at hx ⊢
  generalize iblk m c 1 t = x1 at h1 ⊢
  generalize iblk m c 2 t = x2 at h2 ⊢
  generalize iblk m c 3 t = x3 at h3 ⊢
  generalize iblk m c 4 t = x4 at h4 ⊢
  generalize iblk m c 5 t = x5
  exact out_y c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 r j h hx b h1 h2 h3 h4

end Cert.ReferenceIdeal.Val
-- ==== Proof.RefArr.lean ====
/- What the reference's call leaves in its arrays. -/
module

public import proofs.«01_k».proof.Proof.RefOuts

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Proof
open Cert.KernelIdeal.Val (yVal unit_zero_idx qR qR_coe wCol yOut codesOut scaleOut aRow)

variable (m : (ℓ : Loc nD τ sig) → Buf (Elt Ideal) ℓ) (c : Dev nD)

theorem arr_codes : (dats m 0 c).arrAt 7 cfg0.N
    = codesOut (m ((c : Thread nD τ).loc main_arg0)) (m ((c : Thread nD τ).loc main_arg1)) := by
  refine (dats (F := Ideal) m 0 c).arrAt_eq_of_covers 7 _ (by decide +kernel) fun t hf y => ?_
  have h0 : ((win0_7.blk t).view.emb y 0 : Fin 128) = y 0 := by apply Fin.ext; blk_simp [i7]
  have h1 : ((win0_7.blk t).view.emb y 1 : Fin 16384) = y 1 := by apply Fin.ext; blk_simp [i7]
  unfold codesOut
  generalize hR : ((win0_7.blk t).view.emb y 0 : Fin 128) = R at h0
  generalize hJ : ((win0_7.blk t).view.emb y 1 : Fin 16384) = J at h1
  blk_simp
  rw [after0_7]
  rw [← Cert.KernelIdeal.Val.ix2_eta y]
  refine (outs_codes m c t (y 0) (y 1)).trans ?_
  rw [h0, h1]

theorem arr_scale : (dats m 0 c).arrAt 8 cfg0.N
    = scaleOut (m ((c : Thread nD τ).loc main_arg0)) (m ((c : Thread nD τ).loc main_arg1)) := by
  refine (dats (F := Ideal) m 0 c).arrAt_eq_of_covers 8 _ (by decide +kernel) fun t hf y => ?_
  have h0 : ((win0_8.blk t).view.emb y 0 : Fin 128) = y 0 := by apply Fin.ext; blk_simp [i8]
  unfold scaleOut
  generalize hR : ((win0_8.blk t).view.emb y 0 : Fin 128) = R at h0
  blk_simp
  rw [after0_8]
  rw [← Cert.KernelIdeal.Val.ix2_eta y]
  have h1 : y 1 = (0 : Fin 1) := Subsingleton.elim (α := Fin 1) _ _
  rw [h1]
  refine (outs_scale m c t (y 0)).trans ?_
  rw [h0]

theorem arr_y : (dats m 0 c).arrAt 6 cfg0.N
    = yOut (m ((c : Thread nD τ).loc main_arg0)) (m ((c : Thread nD τ).loc main_arg1)) (m ((c : Thread nD τ).loc main_arg2)) (m ((c : Thread nD τ).loc main_arg3)) := by
  refine (dats (F := Ideal) m 0 c).arrAt_eq_of_covers 6 _ (by decide +kernel) fun t hf y => ?_
  have h0 : ((win0_6.blk t).view.emb y 0 : Fin 128) = y 0 := by apply Fin.ext; blk_simp [i6]
  have h1 : ((win0_6.blk t).view.emb y 1 : Fin 7168) = y 1 := by apply Fin.ext; blk_simp [i6]
  unfold yOut
  generalize hR : ((win0_6.blk t).view.emb y 0 : Fin 128) = R at h0
  generalize hJ : ((win0_6.blk t).view.emb y 1 : Fin 7168) = J at h1
  blk_simp
  rw [after0_6]
  rw [← Cert.KernelIdeal.Val.ix2_eta y]
  refine (outs_y m c t (y 0) (y 1)).trans ?_
  rw [h0, h1]

end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_ternary
public import proofs.«01_k».proof.Proof.RefArr
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The precondition at a byte of the weights. -/
theorem tern_of (x : FVec Ideal Cert.Pre_ternary.S1x128x16384 .bf16) (g : FVec Ideal Cert.Pre_ternary.S16384 .f32)
    (w : IVec Cert.Pre_ternary.S4096x7168 8) (ws : FVec Ideal Cert.Pre_ternary.S1 .f32)
    (h : Cert.Pre_ternary.fn (F := Ideal) x g w ws = fun _ => 1#1) (i : Cert.Pre_ternary.S4096x7168.Idx) : IsTern (w i) := by
  refine tern_of_pre (w i) ?_
  have e := congrFun h i
  have e' : BitVec.ofBool ((((w i).setWidth 32 &&& ((w i).setWidth 32).sshiftRight 1) &&& 85#32) == 0#32) = 1#1 := e
  have hb : ∀ b : Bool, BitVec.ofBool b = 1#1 → b = true := by decide
  exact eq_of_beq (hb _ e')

theorem algebraic : Cert.algebraic_KernelIdeal_ReferenceIdeal_pre_ternary (hKernelIdeal := Cert.KernelIdeal.Gen.facts)
    (hReferenceIdeal := Cert.ReferenceIdeal.Gen.facts) (hPre_ternary := Cert.Pre_ternary.Gen.facts) := by
  intro m g m' g' hpre hagree
  have ht : ∀ (c : Dev Cert.KernelIdeal.nD) (u : Fin 4096) (j : Fin 7168),
      IsTern ((m ((c.tc : Thread Cert.KernelIdeal.nD Cert.KernelIdeal.τ).loc Cert.KernelIdeal.main_arg2) : Vec Ideal Cert.KernelIdeal.S4096x7168 .i8) (ix2 u j)) :=
    fun c u j => tern_of _ _ _ _ (hpre c) (ix2 u j)
  refine ⟨fun c => Cert.KernelIdeal.Gen.W4 m g c (Proc.devRef .tc Cert.KernelIdeal.main_v18), fun c => Cert.KernelIdeal.Gen.W4 m g c (Proc.devRef .tc Cert.KernelIdeal.main_v19),
    fun c => Cert.KernelIdeal.Gen.W4 m g c (Proc.devRef .tc Cert.KernelIdeal.main_v20), Cert.KernelIdeal.Val.run m g,
    θ_run_mono (Cert.ReferenceIdeal.Value.run m' g') fun r h c => ?_⟩
  obtain ⟨h0, h1, h2, ha⟩ := h c
  obtain ⟨a0, a1, a2, a3⟩ := hagree c
  refine ⟨h0.trans (Eq.trans ?_ (Cert.KernelIdeal.Val.out_v18 m g c (ht c)).symm), h1.trans (Eq.trans ?_ (Cert.KernelIdeal.Val.out_v19 m g c).symm),
    h2.trans (Eq.trans ?_ (Cert.KernelIdeal.Val.out_v20 m g c).symm), ha⟩
  · refine congrArg (fun z => shapeCast Cert.ReferenceIdeal.S1x128x7168 z Cert.ReferenceIdeal.Facts₀.shapeCasts_S128x7168_S1x128x7168) ((Cert.ReferenceIdeal.Val.arr_y m' c).trans ?_)
    rw [a0, a1, a2, a3]
  · refine congrArg (fun z => shapeCast Cert.ReferenceIdeal.S1x128x16384 z Cert.ReferenceIdeal.Facts₀.shapeCasts_S128x16384_S1x128x16384) ((Cert.ReferenceIdeal.Val.arr_codes m' c).trans ?_)
    rw [a0, a1]
  · refine congrArg (fun z => shapeCast Cert.ReferenceIdeal.S1x128 z Cert.ReferenceIdeal.Facts₀.shapeCasts_S128x1_S1x128) ((Cert.ReferenceIdeal.Val.arr_scale m' c).trans ?_)
    rw [a0, a1]

theorem claim : Cert.Claim := ⟨Cert.Kernel.Gen.facts, Cert.KernelIdeal.Gen.facts, Cert.ReferenceIdeal.Gen.facts, Cert.Pre_ternary.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
